-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v35_0)) (v2 : (c : Dev Cert.KernelIdeal.nD) → Buf (Elt Ideal) ((c.tc : Thread Cert.KernelIdeal.nD Cert.KernelIdeal.τ).loc Cert.KernelIdeal.main_v35_1)) (v3 : (c : Dev Cert.KernelIdeal.nD) → Buf (Elt Ideal) ((c.tc : Thread Cert.KernelIdeal.nD Cert.KernelIdeal.τ).loc Cert.KernelIdeal.main_v36_0)) (v4 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v35_0) = v1 c
          ∧ r.2.mem ((c.tc : Thread Cert.KernelIdeal.nD Cert.KernelIdeal.τ).loc Cert.KernelIdeal.main_v35_1) = v2 c
          ∧ r.2.mem ((c.tc : Thread Cert.KernelIdeal.nD Cert.KernelIdeal.τ).loc Cert.KernelIdeal.main_v36_0) = v3 c
          ∧ r.2.mem ((c.tc : Thread Cert.KernelIdeal.nD Cert.KernelIdeal.τ).loc Cert.KernelIdeal.main_v36_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v330) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v198) = v3 c
          ∧ r.2.mem ((c.tc : Thread Cert.ReferenceIdeal.nD Cert.ReferenceIdeal.τ).loc Cert.ReferenceIdeal.main_v203) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x7168 : Shape := ⟨3, ![2, 768, 7168]⟩
abbrev S2x768x18432 : Shape := ⟨3, ![2, 768, 18432]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S32 : Shape := ⟨1, ![32]⟩
abbrev S2x384x7168 : Shape := ⟨3, ![2, 384, 7168]⟩
abbrev S2x24x7168 : Shape := ⟨3, ![2, 24, 7168]⟩
abbrev S1x768x256 : Shape := ⟨3, ![1, 768, 256]⟩
abbrev S1x384x256 : Shape := ⟨3, ![1, 384, 256]⟩
abbrev S1x24x256 : Shape := ⟨3, ![1, 24, 256]⟩
abbrev S1x64x256 : Shape := ⟨3, ![1, 64, 256]⟩
abbrev S64x256 : Shape := ⟨2, ![64, 256]⟩
abbrev S16x256 : Shape := ⟨2, ![16, 256]⟩
abbrev S256 : Shape := ⟨1, ![256]⟩
abbrev S1x256 : Shape := ⟨2, ![1, 256]⟩
abbrev S252x1 : Shape := ⟨2, ![252, 1]⟩
abbrev S252x256 : Shape := ⟨2, ![252, 256]⟩
abbrev S32x256 : Shape := ⟨2, ![32, 256]⟩
abbrev S1x32x256 : Shape := ⟨3, ![1, 32, 256]⟩
abbrev S24x256 : Shape := ⟨2, ![24, 256]⟩
abbrev S2x384x18432 : Shape := ⟨3, ![2, 384, 18432]⟩
abbrev S2x24x18432 : Shape := ⟨3, ![2, 24, 18432]⟩
abbrev S1536x18432 : Shape := ⟨2, ![1536, 18432]⟩
abbrev S1536x7168 : Shape := ⟨2, ![1536, 7168]⟩
abbrev S18432x7168 : Shape := ⟨2, ![18432, 7168]⟩
abbrev S1536x512 : Shape := ⟨2, ![1536, 512]⟩
abbrev S1536x1024 : Shape := ⟨2, ![1536, 1024]⟩
abbrev S512x1024 : Shape := ⟨2, ![512, 1024]⟩

abbrev nBuf : Space → Nat
  | .hbm => 56
  | .vmem => 32
  | .smem => 0
  | _ => 0

abbrev bufTy : (tb : Table) → Fin (tcTables nBuf tb) → BufTy
  | .hbm, ⟨0, _⟩ => ⟨S2x768x7168, .bf16⟩
  | .hbm, ⟨1, _⟩ => ⟨S2x768x7168, .bf16⟩
  | .hbm, ⟨2, _⟩ => ⟨S2x768x18432, .bf16⟩
  | .hbm, ⟨3, _⟩ => ⟨S64, .f32⟩
  | .hbm, ⟨4, _⟩ => ⟨S2x768x7168, .i8⟩
  | .hbm, ⟨5, _⟩ => ⟨S2x768x18432, .i8⟩
  | .hbm, ⟨6, _⟩ => ⟨S64, .i32⟩
  | .hbm, ⟨7, _⟩ => ⟨S64x1, .i32⟩
  | .hbm, ⟨8, _⟩ => ⟨S1x64, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S_, .i32⟩
  | .hbm, ⟨20, _⟩ => ⟨S64x64, .i32⟩
  | .hbm, ⟨21, _⟩ => ⟨S64x64, .i32⟩
  | .hbm, ⟨22, _⟩ => ⟨S64x64, .f32⟩
  | .hbm, ⟨23, _⟩ => ⟨S1x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S32, .i32⟩
  | .hbm, ⟨30, _⟩ => ⟨S32, .i32⟩
  | .hbm, ⟨31, _⟩ => ⟨S64, .i32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S64x1, .i32⟩
  | .hbm, ⟨40, _⟩ => ⟨S64x64, .f32⟩
  | .hbm, ⟨41, _⟩ => ⟨S64x1, .i32⟩
  | .hbm, ⟨42, _⟩ => ⟨S1x64, .i32⟩
  | .hbm, ⟨43, _⟩ => ⟨S64x64, .i32⟩
  | .hbm, ⟨44, _⟩ => ⟨S64x64, .i32⟩
  | .hbm, ⟨45, _⟩ => ⟨S64x64, .i1⟩
  | .hbm, ⟨46, _⟩ => ⟨S64x64, .bf16⟩
  | .hbm, ⟨47, _⟩ => ⟨S2x384x7168, .i8⟩
  | .hbm, ⟨48, _⟩ => ⟨S2x24x7168, .i8⟩
  | .hbm, ⟨49, _⟩ => ⟨S2x768x7168, .bf16⟩
  | .hbm, ⟨50, _⟩ => ⟨S2x384x18432, .i8⟩
  | .hbm, ⟨51, _⟩ => ⟨S2x24x18432, .i8⟩
  | .hbm, ⟨52, _⟩ => ⟨S2x768x18432, .bf16⟩
  | .hbm, ⟨53, _⟩ => ⟨S1536x18432, .bf16⟩
  | .hbm, ⟨54, _⟩ => ⟨S1536x7168, .bf16⟩
  | .hbm, ⟨55, _⟩ => ⟨S18432x7168, .f32⟩
  | .local _ .vmem, ⟨0, _⟩ => ⟨S1x768x256, .bf16⟩
  | .local _ .vmem, ⟨1, _⟩ => ⟨S1x768x256, .bf16⟩
  | .local _ .vmem, ⟨2, _⟩ => ⟨S1x768x256, .bf16⟩
  | .local _ .vmem, ⟨3, _⟩ => ⟨S1x768x256, .bf16⟩
  | .local _ .vmem, ⟨4, _⟩ => ⟨S64x64, .f32⟩
  | .local _ .vmem, ⟨5, _⟩ => ⟨S64x64, .bf16⟩
  | .local _ .vmem, ⟨6, _⟩ => ⟨S1x768x256, .i8⟩
  | .local _ .vmem, ⟨7, _⟩ => ⟨S1x768x256, .i8⟩
  | .local _ .vmem, ⟨8, _⟩ => ⟨S1x384x256, .i8⟩
  | .local _ .vmem, ⟨9, _⟩ => ⟨S1x384x256, .i8⟩
  | .local _ .vmem, ⟨10, _⟩ => ⟨S1x24x256, .i8⟩
  | .local _ .vmem, ⟨11, _⟩ => ⟨S1x24x256, .i8⟩
  | .local _ .vmem, ⟨12, _⟩ => ⟨S1x768x256, .bf16⟩
  | .local _ .vmem, ⟨13, _⟩ => ⟨S1x768x256, .bf16⟩
  | .local _ .vmem, ⟨14, _⟩ => ⟨S1x768x256, .bf16⟩
  | .local _ .vmem, ⟨15, _⟩ => ⟨S1x768x256, .bf16⟩
  | .local _ .vmem, ⟨16, _⟩ => ⟨S64x64, .f32⟩
  | .local _ .vmem, ⟨17, _⟩ => ⟨S64x64, .bf16⟩
  | .local _ .vmem, ⟨18, _⟩ => ⟨S1x768x256, .i8⟩
  | .local _ .vmem, ⟨19, _⟩ => ⟨S1x768x256, .i8⟩
  | .local _ .vmem, ⟨20, _⟩ => ⟨S1x384x256, .i8⟩
  | .local _ .vmem, ⟨21, _⟩ => ⟨S1x384x256, .i8⟩
  | .local _ .vmem, ⟨22, _⟩ => ⟨S1x24x256, .i8⟩
  | .local _ .vmem, ⟨23, _⟩ => ⟨S1x24x256, .i8⟩
  | .local _ .vmem, ⟨24, _⟩ => ⟨S1x768x256, .bf16⟩
  | .local _ .vmem, ⟨25, _⟩ => ⟨S1x768x256, .bf16⟩
  | .local _ .vmem, ⟨26, _⟩ => ⟨S1536x512, .bf16⟩
  | .local _ .vmem, ⟨27, _⟩ => ⟨S1536x512, .bf16⟩
  | .local _ .vmem, ⟨28, _⟩ => ⟨S1536x1024, .bf16⟩
  | .local _ .vmem, ⟨29, _⟩ => ⟨S1536x1024, .bf16⟩
  | .local _ .vmem, ⟨30, _⟩ => ⟨S512x1024, .f32⟩
  | .local _ .vmem, ⟨31, _⟩ => ⟨S512x1024, .f32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31

abbrev nD : Nat := 1
abbrev τ : Topo := Topo.v7x

variable {F : FTy → Type} [FloatOps F]

abbrev grid0 : Pipeline.Grid := ⟨2, ![2, 28], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x24x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 72], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x768x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x768x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x384x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x24x256 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x768x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![36, 7], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1536x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1536x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S2x768x7168 : Shape := ⟨3, ![2, 768, 7168]⟩
abbrev S2x768x18432 : Shape := ⟨3, ![2, 768, 18432]⟩
abbrev S64 : Shape := ⟨1, ![64]⟩
abbrev S2 : Shape := ⟨1, ![2]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S2x12x64x7168 : Shape := ⟨4, ![2, 12, 64, 7168]⟩
abbrev S2x12x7168x64 : Shape := ⟨4, ![2, 12, 7168, 64]⟩
abbrev S2x24x32x7168 : Shape := ⟨4, ![2, 24, 32, 7168]⟩
abbrev S2x24x7168 : Shape := ⟨3, ![2, 24, 7168]⟩
abbrev S2x24x1x7168 : Shape := ⟨4, ![2, 24, 1, 7168]⟩
abbrev S2x384x2x7168 : Shape := ⟨4, ![2, 384, 2, 7168]⟩
abbrev S2x384x1x7168 : Shape := ⟨4, ![2, 384, 1, 7168]⟩
abbrev S2x384x7168 : Shape := ⟨3, ![2, 384, 7168]⟩
abbrev S2x12x64x18432 : Shape := ⟨4, ![2, 12, 64, 18432]⟩
abbrev S2x12x18432x64 : Shape := ⟨4, ![2, 12, 18432, 64]⟩
abbrev S2x24x32x18432 : Shape := ⟨4, ![2, 24, 32, 18432]⟩
abbrev S2x24x18432 : Shape := ⟨3, ![2, 24, 18432]⟩
abbrev S2x24x1x18432 : Shape := ⟨4, ![2, 24, 1, 18432]⟩
abbrev S2x384x2x18432 : Shape := ⟨4, ![2, 384, 2, 18432]⟩
abbrev S2x384x1x18432 : Shape := ⟨4, ![2, 384, 1, 18432]⟩
abbrev S2x384x18432 : Shape := ⟨3, ![2, 384, 18432]⟩
abbrev S1x2x24x1x7168 : Shape := ⟨5, ![1, 2, 24, 1, 7168]⟩
abbrev S2x1x1x1 : Shape := ⟨4, ![2, 1, 1, 1]⟩
abbrev S1x2x384x7168 : Shape := ⟨4, ![1, 2, 384, 7168]⟩
abbrev S2x2x384x7168 : Shape := ⟨4, ![2, 2, 384, 7168]⟩
abbrev S2x2x24x16x7168 : Shape := ⟨5, ![2, 2, 24, 16, 7168]⟩
abbrev S1x2x24x1x18432 : Shape := ⟨5, ![1, 2, 24, 1, 18432]⟩
abbrev S1x2x384x18432 : Shape := ⟨4, ![1, 2, 384, 18432]⟩
abbrev S2x2x384x18432 : Shape := ⟨4, ![2, 2, 384, 18432]⟩
abbrev S2x2x24x16x18432 : Shape := ⟨5, ![2, 2, 24, 16, 18432]⟩
abbrev S18432x7168 : Shape := ⟨2, ![18432, 7168]⟩

abbrev nBuf : Space → Nat
  | .hbm => 485
  | .vmem => 0
  | .smem => 0
  | _ => 0

abbrev hbmTy0_0 (i : Nat) : BufTy := match i % 128 with
  | 0 => ⟨S2x768x7168, .bf16⟩
  | 1 => ⟨S2x768x7168, .bf16⟩
  | 2 => ⟨S2x768x18432, .bf16⟩
  | 3 => ⟨S64, .f32⟩
  | 4 => ⟨S2x768x7168, .i8⟩
  | 5 => ⟨S2x768x18432, .i8⟩
  | 6 => ⟨S2, .i32⟩
  | 7 => ⟨S2, .i32⟩
  | 8 => ⟨S64, .i32⟩
  | 9 => ⟨S64x1, .i32⟩
  | 10 => ⟨S1x64, .i32⟩
  | 11 => ⟨S64x64, .i32⟩
  | 12 => ⟨S64x64, .i32⟩
  | 13 => ⟨S64x64, .i32⟩
  | 14 => ⟨S64x64, .i32⟩
  | 15 => ⟨S_, .i32⟩
  | 16 => ⟨S64x64, .i32⟩
  | 17 => ⟨S64x64, .i32⟩
  | 18 => ⟨S_, .i32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .f32⟩
  | 25 => ⟨S1x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S2x768x7168, .f32⟩
  | 32 => ⟨S2x768x7168, .f32⟩
  | 33 => ⟨S2x768x7168, .f32⟩
  | 34 => ⟨S_, .f32⟩
  | 35 => ⟨S2x768x7168, .f32⟩
  | 36 => ⟨S2x768x7168, .f32⟩
  | 37 => ⟨S_, .f32⟩
  | 38 => ⟨S2x768x7168, .f32⟩
  | 39 => ⟨S2x768x7168, .f32⟩
  | 40 => ⟨S2x768x7168, .f32⟩
  | 41 => ⟨S2x768x7168, .f32⟩
  | 42 => ⟨S2x768x7168, .f32⟩
  | 43 => ⟨S2x768x7168, .bf16⟩
  | 44 => ⟨S2x768x7168, .f32⟩
  | 45 => ⟨S2x12x64x7168, .f32⟩
  | 46 => ⟨S2x12x7168x64, .f32⟩
  | 47 => ⟨S2x12x64x7168, .f32⟩
  | 48 => ⟨S2x768x7168, .f32⟩
  | 49 => ⟨S2x24x32x7168, .f32⟩
  | 50 => ⟨S2x24x32x7168, .i8⟩
  | 51 => ⟨S2x24x32x7168, .f32⟩
  | 52 => ⟨S_, .f32⟩
  | 53 => ⟨S2x24x7168, .f32⟩
  | 54 => ⟨S2x24x1x7168, .f32⟩
  | 55 => ⟨S_, .f32⟩
  | 56 => ⟨S2x24x1x7168, .f32⟩
  | 57 => ⟨S2x24x1x7168, .f32⟩
  | 58 => ⟨S2x24x1x7168, .f32⟩
  | 59 => ⟨S_, .f32⟩
  | 60 => ⟨S2x24x1x7168, .f32⟩
  | 61 => ⟨S2x24x1x7168, .f32⟩
  | 62 => ⟨S2x24x1x7168, .f32⟩
  | 63 => ⟨S2x24x1x7168, .f32⟩
  | 64 => ⟨S_, .f32⟩
  | 65 => ⟨S2x24x1x7168, .f32⟩
  | 66 => ⟨S2x24x1x7168, .f32⟩
  | 67 => ⟨S_, .f32⟩
  | 68 => ⟨S2x24x1x7168, .f32⟩
  | 69 => ⟨S2x24x1x7168, .f32⟩
  | 70 => ⟨S_, .f32⟩
  | 71 => ⟨S2x24x1x7168, .f32⟩
  | 72 => ⟨S2x24x1x7168, .i1⟩
  | 73 => ⟨S_, .f32⟩
  | 74 => ⟨S_, .f32⟩
  | 75 => ⟨S2x24x1x7168, .f32⟩
  | 76 => ⟨S2x24x1x7168, .f32⟩
  | 77 => ⟨S2x24x1x7168, .f32⟩
  | 78 => ⟨S_, .f32⟩
  | 79 => ⟨S2x24x1x7168, .f32⟩
  | 80 => ⟨S2x24x1x7168, .f32⟩
  | 81 => ⟨S2x24x32x7168, .f32⟩
  | 82 => ⟨S2x24x32x7168, .f32⟩
  | 83 => ⟨S2x24x32x7168, .f32⟩
  | 84 => ⟨S_, .f32⟩
  | 85 => ⟨S2x24x32x7168, .f32⟩
  | 86 => ⟨S2x24x32x7168, .i1⟩
  | 87 => ⟨S_, .f32⟩
  | 88 => ⟨S2x24x32x7168, .f32⟩
  | 89 => ⟨S2x24x32x7168, .i1⟩
  | 90 => ⟨S_, .f32⟩
  | 91 => ⟨S_, .f32⟩
  | 92 => ⟨S2x24x32x7168, .f32⟩
  | 93 => ⟨S2x24x32x7168, .f32⟩
  | 94 => ⟨S2x24x32x7168, .f32⟩
  | 95 => ⟨S_, .f32⟩
  | 96 => ⟨S2x24x32x7168, .f32⟩
  | 97 => ⟨S2x24x32x7168, .f32⟩
  | 98 => ⟨S2x24x32x7168, .f32⟩
  | 99 => ⟨S2x24x32x7168, .f32⟩
  | 100 => ⟨S2x24x32x7168, .f32⟩
  | 101 => ⟨S2x24x32x7168, .f32⟩
  | 102 => ⟨S2x24x32x7168, .i32⟩
  | 103 => ⟨S2x24x32x7168, .f32⟩
  | 104 => ⟨S_, .f32⟩
  | 105 => ⟨S2x24x32x7168, .f32⟩
  | 106 => ⟨S2x24x32x7168, .f32⟩
  | 107 => ⟨S_, .f32⟩
  | 108 => ⟨S2x24x32x7168, .f32⟩
  | 109 => ⟨S2x24x32x7168, .f32⟩
  | 110 => ⟨S2x24x32x7168, .i1⟩
  | 111 => ⟨S2x24x32x7168, .f32⟩
  | 112 => ⟨S2x24x32x7168, .f32⟩
  | 113 => ⟨S2x24x32x7168, .f32⟩
  | 114 => ⟨S_, .f32⟩
  | 115 => ⟨S2x24x32x7168, .f32⟩
  | 116 => ⟨S2x24x32x7168, .f32⟩
  | 117 => ⟨S_, .f32⟩
  | 118 => ⟨S2x24x32x7168, .f32⟩
  | 119 => ⟨S2x24x32x7168, .i1⟩
  | 120 => ⟨S_, .f32⟩
  | 121 => ⟨S2x24x32x7168, .f32⟩
  | 122 => ⟨S2x24x32x7168, .f32⟩
  | 123 => ⟨S_, .f32⟩
  | 124 => ⟨S2x24x32x7168, .f32⟩
  | 125 => ⟨S2x24x32x7168, .i1⟩
  | 126 => ⟨S_, .f32⟩
  | 127 => ⟨S2x24x32x7168, .f32⟩
  | _ => ⟨S2x768x7168, .bf16⟩

abbrev hbmTy0_1 (i : Nat) : BufTy := match i % 128 with
  | 0 => ⟨S2x24x32x7168, .f32⟩
  | 1 => ⟨S_, .f32⟩
  | 2 => ⟨S2x24x32x7168, .f32⟩
  | 3 => ⟨S2x24x32x7168, .f32⟩
  | 4 => ⟨S_, .f32⟩
  | 5 => ⟨S2x24x32x7168, .f32⟩
  | 6 => ⟨S2x24x32x7168, .f32⟩
  | 7 => ⟨S2x24x32x7168, .f32⟩
  | 8 => ⟨S2x24x32x7168, .f32⟩
  | 9 => ⟨S2x24x32x7168, .i32⟩
  | 10 => ⟨S_, .f32⟩
  | 11 => ⟨S2x24x32x7168, .f32⟩
  | 12 => ⟨S2x24x32x7168, .i1⟩
  | 13 => ⟨S_, .f32⟩
  | 14 => ⟨S2x24x32x7168, .f32⟩
  | 15 => ⟨S2x24x32x7168, .i1⟩
  | 16 => ⟨S2x24x32x7168, .i1⟩
  | 17 => ⟨S2x24x32x7168, .i32⟩
  | 18 => ⟨S_, .i32⟩
  | 19 => ⟨S2x24x32x7168, .i32⟩
  | 20 => ⟨S2x24x32x7168, .i32⟩
  | 21 => ⟨S2x24x32x7168, .i32⟩
  | 22 => ⟨S2x384x2x7168, .i32⟩
  | 23 => ⟨S2x384x1x7168, .i32⟩
  | 24 => ⟨S2x384x7168, .i32⟩
  | 25 => ⟨S2x384x1x7168, .i32⟩
  | 26 => ⟨S2x384x7168, .i32⟩
  | 27 => ⟨S_, .i32⟩
  | 28 => ⟨S2x384x7168, .i32⟩
  | 29 => ⟨S2x384x7168, .i32⟩
  | 30 => ⟨S2x384x7168, .i32⟩
  | 31 => ⟨S2x384x7168, .i8⟩
  | 32 => ⟨S2x24x7168, .f32⟩
  | 33 => ⟨S2x24x7168, .i32⟩
  | 34 => ⟨S_, .i32⟩
  | 35 => ⟨S2x24x7168, .i32⟩
  | 36 => ⟨S2x24x7168, .i32⟩
  | 37 => ⟨S2x24x7168, .i8⟩
  | 38 => ⟨S2x768x18432, .f32⟩
  | 39 => ⟨S2x12x64x18432, .f32⟩
  | 40 => ⟨S2x12x18432x64, .f32⟩
  | 41 => ⟨S2x12x64x18432, .f32⟩
  | 42 => ⟨S2x768x18432, .f32⟩
  | 43 => ⟨S2x24x32x18432, .f32⟩
  | 44 => ⟨S2x24x32x18432, .i8⟩
  | 45 => ⟨S2x24x32x18432, .f32⟩
  | 46 => ⟨S_, .f32⟩
  | 47 => ⟨S2x24x18432, .f32⟩
  | 48 => ⟨S2x24x1x18432, .f32⟩
  | 49 => ⟨S_, .f32⟩
  | 50 => ⟨S2x24x1x18432, .f32⟩
  | 51 => ⟨S2x24x1x18432, .f32⟩
  | 52 => ⟨S2x24x1x18432, .f32⟩
  | 53 => ⟨S_, .f32⟩
  | 54 => ⟨S2x24x1x18432, .f32⟩
  | 55 => ⟨S2x24x1x18432, .f32⟩
  | 56 => ⟨S2x24x1x18432, .f32⟩
  | 57 => ⟨S2x24x1x18432, .f32⟩
  | 58 => ⟨S_, .f32⟩
  | 59 => ⟨S2x24x1x18432, .f32⟩
  | 60 => ⟨S2x24x1x18432, .f32⟩
  | 61 => ⟨S_, .f32⟩
  | 62 => ⟨S2x24x1x18432, .f32⟩
  | 63 => ⟨S2x24x1x18432, .f32⟩
  | 64 => ⟨S_, .f32⟩
  | 65 => ⟨S2x24x1x18432, .f32⟩
  | 66 => ⟨S2x24x1x18432, .i1⟩
  | 67 => ⟨S_, .f32⟩
  | 68 => ⟨S_, .f32⟩
  | 69 => ⟨S2x24x1x18432, .f32⟩
  | 70 => ⟨S2x24x1x18432, .f32⟩
  | 71 => ⟨S2x24x1x18432, .f32⟩
  | 72 => ⟨S_, .f32⟩
  | 73 => ⟨S2x24x1x18432, .f32⟩
  | 74 => ⟨S2x24x1x18432, .f32⟩
  | 75 => ⟨S2x24x32x18432, .f32⟩
  | 76 => ⟨S2x24x32x18432, .f32⟩
  | 77 => ⟨S2x24x32x18432, .f32⟩
  | 78 => ⟨S_, .f32⟩
  | 79 => ⟨S2x24x32x18432, .f32⟩
  | 80 => ⟨S2x24x32x18432, .i1⟩
  | 81 => ⟨S_, .f32⟩
  | 82 => ⟨S2x24x32x18432, .f32⟩
  | 83 => ⟨S2x24x32x18432, .i1⟩
  | 84 => ⟨S_, .f32⟩
  | 85 => ⟨S_, .f32⟩
  | 86 => ⟨S2x24x32x18432, .f32⟩
  | 87 => ⟨S2x24x32x18432, .f32⟩
  | 88 => ⟨S2x24x32x18432, .f32⟩
  | 89 => ⟨S_, .f32⟩
  | 90 => ⟨S2x24x32x18432, .f32⟩
  | 91 => ⟨S2x24x32x18432, .f32⟩
  | 92 => ⟨S2x24x32x18432, .f32⟩
  | 93 => ⟨S2x24x32x18432, .f32⟩
  | 94 => ⟨S2x24x32x18432, .f32⟩
  | 95 => ⟨S2x24x32x18432, .f32⟩
  | 96 => ⟨S2x24x32x18432, .i32⟩
  | 97 => ⟨S2x24x32x18432, .f32⟩
  | 98 => ⟨S_, .f32⟩
  | 99 => ⟨S2x24x32x18432, .f32⟩
  | 100 => ⟨S2x24x32x18432, .f32⟩
  | 101 => ⟨S_, .f32⟩
  | 102 => ⟨S2x24x32x18432, .f32⟩
  | 103 => ⟨S2x24x32x18432, .f32⟩
  | 104 => ⟨S2x24x32x18432, .i1⟩
  | 105 => ⟨S2x24x32x18432, .f32⟩
  | 106 => ⟨S2x24x32x18432, .f32⟩
  | 107 => ⟨S2x24x32x18432, .f32⟩
  | 108 => ⟨S_, .f32⟩
  | 109 => ⟨S2x24x32x18432, .f32⟩
  | 110 => ⟨S2x24x32x18432, .f32⟩
  | 111 => ⟨S_, .f32⟩
  | 112 => ⟨S2x24x32x18432, .f32⟩
  | 113 => ⟨S2x24x32x18432, .i1⟩
  | 114 => ⟨S_, .f32⟩
  | 115 => ⟨S2x24x32x18432, .f32⟩
  | 116 => ⟨S2x24x32x18432, .f32⟩
  | 117 => ⟨S_, .f32⟩
  | 118 => ⟨S2x24x32x18432, .f32⟩
  | 119 => ⟨S2x24x32x18432, .i1⟩
  | 120 => ⟨S_, .f32⟩
  | 121 => ⟨S2x24x32x18432, .f32⟩
  | 122 => ⟨S2x24x32x18432, .f32⟩
  | 123 => ⟨S_, .f32⟩
  | 124 => ⟨S2x24x32x18432, .f32⟩
  | 125 => ⟨S2x24x32x18432, .f32⟩
  | 126 => ⟨S_, .f32⟩
  | 127 => ⟨S2x24x32x18432, .f32⟩
  | _ => ⟨S2x768x7168, .bf16⟩

abbrev hbmTy0_2 (i : Nat) : BufTy := match i % 128 with
  | 0 => ⟨S2x24x32x18432, .f32⟩
  | 1 => ⟨S2x24x32x18432, .f32⟩
  | 2 => ⟨S2x24x32x18432, .f32⟩
  | 3 => ⟨S2x24x32x18432, .i32⟩
  | 4 => ⟨S_, .f32⟩
  | 5 => ⟨S2x24x32x18432, .f32⟩
  | 6 => ⟨S2x24x32x18432, .i1⟩
  | 7 => ⟨S_, .f32⟩
  | 8 => ⟨S2x24x32x18432, .f32⟩
  | 9 => ⟨S2x24x32x18432, .i1⟩
  | 10 => ⟨S2x24x32x18432, .i1⟩
  | 11 => ⟨S2x24x32x18432, .i32⟩
  | 12 => ⟨S_, .i32⟩
  | 13 => ⟨S2x24x32x18432, .i32⟩
  | 14 => ⟨S2x24x32x18432, .i32⟩
  | 15 => ⟨S2x24x32x18432, .i32⟩
  | 16 => ⟨S2x384x2x18432, .i32⟩
  | 17 => ⟨S2x384x1x18432, .i32⟩
  | 18 => ⟨S2x384x18432, .i32⟩
  | 19 => ⟨S2x384x1x18432, .i32⟩
  | 20 => ⟨S2x384x18432, .i32⟩
  | 21 => ⟨S_, .i32⟩
  | 22 => ⟨S2x384x18432, .i32⟩
  | 23 => ⟨S2x384x18432, .i32⟩
  | 24 => ⟨S2x384x18432, .i32⟩
  | 25 => ⟨S2x384x18432, .i8⟩
  | 26 => ⟨S2x24x18432, .f32⟩
  | 27 => ⟨S2x24x18432, .i32⟩
  | 28 => ⟨S_, .i32⟩
  | 29 => ⟨S2x24x18432, .i32⟩
  | 30 => ⟨S2x24x18432, .i32⟩
  | 31 => ⟨S2x24x18432, .i8⟩
  | 32 => ⟨S2x24x7168, .i32⟩
  | 33 => ⟨S_, .i32⟩
  | 34 => ⟨S2x24x7168, .i32⟩
  | 35 => ⟨S2x24x7168, .i32⟩
  | 36 => ⟨S2x24x7168, .f32⟩
  | 37 => ⟨S_, .f32⟩
  | 38 => ⟨S2x24x7168, .f32⟩
  | 39 => ⟨S2x24x7168, .f32⟩
  | 40 => ⟨S2x24x7168, .bf16⟩
  | 41 => ⟨S1x2x24x1x7168, .bf16⟩
  | 42 => ⟨S2x1x1x1, .i32⟩
  | 43 => ⟨S2x384x7168, .i32⟩
  | 44 => ⟨S1x2x384x7168, .i32⟩
  | 45 => ⟨S2x2x384x7168, .i32⟩
  | 46 => ⟨S2x2x384x7168, .i32⟩
  | 47 => ⟨S2x2x384x7168, .i32⟩
  | 48 => ⟨S_, .i32⟩
  | 49 => ⟨S2x2x384x7168, .i32⟩
  | 50 => ⟨S2x2x384x7168, .i32⟩
  | 51 => ⟨S_, .i32⟩
  | 52 => ⟨S2x2x384x7168, .i32⟩
  | 53 => ⟨S2x2x384x7168, .i32⟩
  | 54 => ⟨S_, .i32⟩
  | 55 => ⟨S2x2x384x7168, .i32⟩
  | 56 => ⟨S2x2x384x7168, .i1⟩
  | 57 => ⟨S_, .i32⟩
  | 58 => ⟨S2x2x384x7168, .i32⟩
  | 59 => ⟨S2x2x384x7168, .i32⟩
  | 60 => ⟨S_, .i32⟩
  | 61 => ⟨S2x2x384x7168, .i32⟩
  | 62 => ⟨S2x2x384x7168, .i1⟩
  | 63 => ⟨S_, .i32⟩
  | 64 => ⟨S2x2x384x7168, .i32⟩
  | 65 => ⟨S2x2x384x7168, .i32⟩
  | 66 => ⟨S_, .i32⟩
  | 67 => ⟨S2x2x384x7168, .i32⟩
  | 68 => ⟨S2x2x384x7168, .i1⟩
  | 69 => ⟨S_, .f32⟩
  | 70 => ⟨S_, .f32⟩
  | 71 => ⟨S2x2x384x7168, .f32⟩
  | 72 => ⟨S2x2x384x7168, .f32⟩
  | 73 => ⟨S2x2x384x7168, .f32⟩
  | 74 => ⟨S_, .i32⟩
  | 75 => ⟨S2x2x384x7168, .i32⟩
  | 76 => ⟨S2x2x384x7168, .i32⟩
  | 77 => ⟨S_, .i32⟩
  | 78 => ⟨S2x2x384x7168, .i32⟩
  | 79 => ⟨S2x2x384x7168, .i1⟩
  | 80 => ⟨S_, .f32⟩
  | 81 => ⟨S_, .f32⟩
  | 82 => ⟨S2x2x384x7168, .f32⟩
  | 83 => ⟨S2x2x384x7168, .f32⟩
  | 84 => ⟨S2x2x384x7168, .f32⟩
  | 85 => ⟨S2x2x384x7168, .f32⟩
  | 86 => ⟨S_, .i32⟩
  | 87 => ⟨S2x2x384x7168, .i32⟩
  | 88 => ⟨S2x2x384x7168, .i32⟩
  | 89 => ⟨S_, .i32⟩
  | 90 => ⟨S2x2x384x7168, .i32⟩
  | 91 => ⟨S2x2x384x7168, .i1⟩
  | 92 => ⟨S_, .i32⟩
  | 93 => ⟨S2x2x384x7168, .i32⟩
  | 94 => ⟨S2x2x384x7168, .i32⟩
  | 95 => ⟨S_, .i32⟩
  | 96 => ⟨S2x2x384x7168, .i32⟩
  | 97 => ⟨S2x2x384x7168, .i1⟩
  | 98 => ⟨S_, .f32⟩
  | 99 => ⟨S_, .f32⟩
  | 100 => ⟨S2x2x384x7168, .f32⟩
  | 101 => ⟨S2x2x384x7168, .f32⟩
  | 102 => ⟨S2x2x384x7168, .f32⟩
  | 103 => ⟨S_, .i32⟩
  | 104 => ⟨S2x2x384x7168, .i32⟩
  | 105 => ⟨S2x2x384x7168, .i32⟩
  | 106 => ⟨S_, .i32⟩
  | 107 => ⟨S2x2x384x7168, .i32⟩
  | 108 => ⟨S2x2x384x7168, .i1⟩
  | 109 => ⟨S_, .f32⟩
  | 110 => ⟨S_, .f32⟩
  | 111 => ⟨S2x2x384x7168, .f32⟩
  | 112 => ⟨S2x2x384x7168, .f32⟩
  | 113 => ⟨S2x2x384x7168, .f32⟩
  | 114 => ⟨S2x2x384x7168, .f32⟩
  | 115 => ⟨S2x2x384x7168, .f32⟩
  | 116 => ⟨S_, .i32⟩
  | 117 => ⟨S2x2x384x7168, .i32⟩
  | 118 => ⟨S2x2x384x7168, .i32⟩
  | 119 => ⟨S_, .i32⟩
  | 120 => ⟨S2x2x384x7168, .i32⟩
  | 121 => ⟨S2x2x384x7168, .i1⟩
  | 122 => ⟨S2x2x384x7168, .f32⟩
  | 123 => ⟨S2x2x384x7168, .f32⟩
  | 124 => ⟨S2x2x384x7168, .f32⟩
  | 125 => ⟨S2x2x384x7168, .bf16⟩
  | 126 => ⟨S2x2x24x16x7168, .bf16⟩
  | 127 => ⟨S2x2x24x16x7168, .bf16⟩
  | _ => ⟨S2x768x7168, .bf16⟩

abbrev hbmTy0_3 (i : Nat) : BufTy := match i % 128 with
  | 0 => ⟨S2x2x24x16x7168, .bf16⟩
  | 1 => ⟨S2x2x384x7168, .bf16⟩
  | 2 => ⟨S2x24x18432, .i32⟩
  | 3 => ⟨S_, .i32⟩
  | 4 => ⟨S2x24x18432, .i32⟩
  | 5 => ⟨S2x24x18432, .i32⟩
  | 6 => ⟨S2x24x18432, .f32⟩
  | 7 => ⟨S_, .f32⟩
  | 8 => ⟨S2x24x18432, .f32⟩
  | 9 => ⟨S2x24x18432, .f32⟩
  | 10 => ⟨S2x24x18432, .bf16⟩
  | 11 => ⟨S1x2x24x1x18432, .bf16⟩
  | 12 => ⟨S2x1x1x1, .i32⟩
  | 13 => ⟨S2x384x18432, .i32⟩
  | 14 => ⟨S1x2x384x18432, .i32⟩
  | 15 => ⟨S2x2x384x18432, .i32⟩
  | 16 => ⟨S2x2x384x18432, .i32⟩
  | 17 => ⟨S2x2x384x18432, .i32⟩
  | 18 => ⟨S_, .i32⟩
  | 19 => ⟨S2x2x384x18432, .i32⟩
  | 20 => ⟨S2x2x384x18432, .i32⟩
  | 21 => ⟨S_, .i32⟩
  | 22 => ⟨S2x2x384x18432, .i32⟩
  | 23 => ⟨S2x2x384x18432, .i32⟩
  | 24 => ⟨S_, .i32⟩
  | 25 => ⟨S2x2x384x18432, .i32⟩
  | 26 => ⟨S2x2x384x18432, .i1⟩
  | 27 => ⟨S_, .i32⟩
  | 28 => ⟨S2x2x384x18432, .i32⟩
  | 29 => ⟨S2x2x384x18432, .i32⟩
  | 30 => ⟨S_, .i32⟩
  | 31 => ⟨S2x2x384x18432, .i32⟩
  | 32 => ⟨S2x2x384x18432, .i1⟩
  | 33 => ⟨S_, .i32⟩
  | 34 => ⟨S2x2x384x18432, .i32⟩
  | 35 => ⟨S2x2x384x18432, .i32⟩
  | 36 => ⟨S_, .i32⟩
  | 37 => ⟨S2x2x384x18432, .i32⟩
  | 38 => ⟨S2x2x384x18432, .i1⟩
  | 39 => ⟨S_, .f32⟩
  | 40 => ⟨S_, .f32⟩
  | 41 => ⟨S2x2x384x18432, .f32⟩
  | 42 => ⟨S2x2x384x18432, .f32⟩
  | 43 => ⟨S2x2x384x18432, .f32⟩
  | 44 => ⟨S_, .i32⟩
  | 45 => ⟨S2x2x384x18432, .i32⟩
  | 46 => ⟨S2x2x384x18432, .i32⟩
  | 47 => ⟨S_, .i32⟩
  | 48 => ⟨S2x2x384x18432, .i32⟩
  | 49 => ⟨S2x2x384x18432, .i1⟩
  | 50 => ⟨S_, .f32⟩
  | 51 => ⟨S_, .f32⟩
  | 52 => ⟨S2x2x384x18432, .f32⟩
  | 53 => ⟨S2x2x384x18432, .f32⟩
  | 54 => ⟨S2x2x384x18432, .f32⟩
  | 55 => ⟨S2x2x384x18432, .f32⟩
  | 56 => ⟨S_, .i32⟩
  | 57 => ⟨S2x2x384x18432, .i32⟩
  | 58 => ⟨S2x2x384x18432, .i32⟩
  | 59 => ⟨S_, .i32⟩
  | 60 => ⟨S2x2x384x18432, .i32⟩
  | 61 => ⟨S2x2x384x18432, .i1⟩
  | 62 => ⟨S_, .i32⟩
  | 63 => ⟨S2x2x384x18432, .i32⟩
  | 64 => ⟨S2x2x384x18432, .i32⟩
  | 65 => ⟨S_, .i32⟩
  | 66 => ⟨S2x2x384x18432, .i32⟩
  | 67 => ⟨S2x2x384x18432, .i1⟩
  | 68 => ⟨S_, .f32⟩
  | 69 => ⟨S_, .f32⟩
  | 70 => ⟨S2x2x384x18432, .f32⟩
  | 71 => ⟨S2x2x384x18432, .f32⟩
  | 72 => ⟨S2x2x384x18432, .f32⟩
  | 73 => ⟨S_, .i32⟩
  | 74 => ⟨S2x2x384x18432, .i32⟩
  | 75 => ⟨S2x2x384x18432, .i32⟩
  | 76 => ⟨S_, .i32⟩
  | 77 => ⟨S2x2x384x18432, .i32⟩
  | 78 => ⟨S2x2x384x18432, .i1⟩
  | 79 => ⟨S_, .f32⟩
  | 80 => ⟨S_, .f32⟩
  | 81 => ⟨S2x2x384x18432, .f32⟩
  | 82 => ⟨S2x2x384x18432, .f32⟩
  | 83 => ⟨S2x2x384x18432, .f32⟩
  | 84 => ⟨S2x2x384x18432, .f32⟩
  | 85 => ⟨S2x2x384x18432, .f32⟩
  | 86 => ⟨S_, .i32⟩
  | 87 => ⟨S2x2x384x18432, .i32⟩
  | 88 => ⟨S2x2x384x18432, .i32⟩
  | 89 => ⟨S_, .i32⟩
  | 90 => ⟨S2x2x384x18432, .i32⟩
  | 91 => ⟨S2x2x384x18432, .i1⟩
  | 92 => ⟨S2x2x384x18432, .f32⟩
  | 93 => ⟨S2x2x384x18432, .f32⟩
  | 94 => ⟨S2x2x384x18432, .f32⟩
  | 95 => ⟨S2x2x384x18432, .bf16⟩
  | 96 => ⟨S2x2x24x16x18432, .bf16⟩
  | 97 => ⟨S2x2x24x16x18432, .bf16⟩
  | 98 => ⟨S2x2x24x16x18432, .bf16⟩
  | 99 => ⟨S2x2x384x18432, .bf16⟩
  | 100 => ⟨S18432x7168, .f32⟩
  | _ => ⟨S2x768x7168, .bf16⟩

abbrev hbmTy (i : Nat) : BufTy := match i / 128 with
  | 0 => hbmTy0_0 i
  | 1 => hbmTy0_1 i
  | 2 => hbmTy0_2 i
  | 3 => hbmTy0_3 i
  | _ => ⟨S2x768x7168, .bf16⟩

abbrev bufTy : (tb : Table) → Fin (tcTables nBuf tb) → BufTy
  | .hbm, ⟨i, _⟩ => hbmTy i
  | _, _ => ⟨S2x768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_call1_v0 : Ref sig .tc := ⟨.hbm, 74, rfl⟩
abbrev main_call1_v1 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_cst_15 : Ref sig .tc := ⟨.hbm, 91, rfl⟩
abbrev main_call2_v0 : Ref sig .tc := ⟨.hbm, 92, rfl⟩
abbrev main_call2_v1 : Ref sig .tc := ⟨.hbm, 93, rfl⟩
abbrev main_v58 : Ref sig .tc := ⟨.hbm, 94, rfl⟩
abbrev main_cst_16 : Ref sig .tc := ⟨.hbm, 95, rfl⟩
abbrev main_call3_v0 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_17 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_cst_20 : Ref sig .tc := ⟨.hbm, 117, rfl⟩
abbrev main_v76 : Ref sig .tc := ⟨.hbm, 118, rfl⟩
abbrev main_v77 : Ref sig .tc := ⟨.hbm, 119, rfl⟩
abbrev main_cst_21 : Ref sig .tc := ⟨.hbm, 120, rfl⟩
abbrev main_v78 : Ref sig .tc := ⟨.hbm, 121, rfl⟩
abbrev main_v79 : Ref sig .tc := ⟨.hbm, 122, rfl⟩
abbrev main_cst_22 : Ref sig .tc := ⟨.hbm, 123, rfl⟩
abbrev main_v80 : Ref sig .tc := ⟨.hbm, 124, rfl⟩
abbrev main_v81 : Ref sig .tc := ⟨.hbm, 125, rfl⟩
abbrev main_cst_23 : Ref sig .tc := ⟨.hbm, 126, rfl⟩
abbrev main_v82 : Ref sig .tc := ⟨.hbm, 127, rfl⟩
abbrev main_v83 : Ref sig .tc := ⟨.hbm, 128, rfl⟩
abbrev main_cst_24 : Ref sig .tc := ⟨.hbm, 129, rfl⟩
abbrev main_v84 : Ref sig .tc := ⟨.hbm, 130, rfl⟩
abbrev main_v85 : Ref sig .tc := ⟨.hbm, 131, rfl⟩
abbrev main_cst_25 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_26 : Ref sig .tc := ⟨.hbm, 138, rfl⟩
abbrev main_v91 : Ref sig .tc := ⟨.hbm, 139, rfl⟩
abbrev main_v92 : Ref sig .tc := ⟨.hbm, 140, rfl⟩
abbrev main_cst_27 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_28 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_c_29 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_30 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_31 : Ref sig .tc := ⟨.hbm, 174, rfl⟩
abbrev main_v122 : Ref sig .tc := ⟨.hbm, 175, rfl⟩
abbrev main_v123 : Ref sig .tc := ⟨.hbm, 176, rfl⟩
abbrev main_cst_32 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_33 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_34 : Ref sig .tc := ⟨.hbm, 186, rfl⟩
abbrev main_v131 : Ref sig .tc := ⟨.hbm, 187, rfl⟩
abbrev main_v132 : Ref sig .tc := ⟨.hbm, 188, rfl⟩
abbrev main_cst_35 : Ref sig .tc := ⟨.hbm, 189, rfl⟩
abbrev main_v133 : Ref sig .tc := ⟨.hbm, 190, rfl⟩
abbrev main_v134 : Ref sig .tc := ⟨.hbm, 191, rfl⟩
abbrev main_cst_36 : Ref sig .tc := ⟨.hbm, 192, rfl⟩
abbrev main_v135 : Ref sig .tc := ⟨.hbm, 193, rfl⟩
abbrev main_v136 : Ref sig .tc := ⟨.hbm, 194, rfl⟩
abbrev main_cst_37 : Ref sig .tc := ⟨.hbm, 195, rfl⟩
abbrev main_call6_v0 : Ref sig .tc := ⟨.hbm, 196, rfl⟩
abbrev main_call6_v1 : Ref sig .tc := ⟨.hbm, 197, rfl⟩
abbrev main_v137 : Ref sig .tc := ⟨.hbm, 198, rfl⟩
abbrev main_v138 : Ref sig .tc := ⟨.hbm, 199, rfl⟩
abbrev main_cst_38 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_39 : Ref sig .tc := ⟨.hbm, 206, rfl⟩
abbrev main_v144 : Ref sig .tc := ⟨.hbm, 207, rfl⟩
abbrev main_v145 : Ref sig .tc := ⟨.hbm, 208, rfl⟩
abbrev main_cst_40 : Ref sig .tc := ⟨.hbm, 209, rfl⟩
abbrev main_v146 : Ref sig .tc := ⟨.hbm, 210, rfl⟩
abbrev main_v147 : Ref sig .tc := ⟨.hbm, 211, rfl⟩
abbrev main_cst_41 : Ref sig .tc := ⟨.hbm, 212, rfl⟩
abbrev main_cst_42 : Ref sig .tc := ⟨.hbm, 213, rfl⟩
abbrev main_call7_v0 : Ref sig .tc := ⟨.hbm, 214, rfl⟩
abbrev main_call7_v1 : Ref sig .tc := ⟨.hbm, 215, rfl⟩
abbrev main_v148 : Ref sig .tc := ⟨.hbm, 216, rfl⟩
abbrev main_cst_43 : Ref sig .tc := ⟨.hbm, 217, rfl⟩
abbrev main_call8_v0 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_cst_44 : Ref sig .tc := ⟨.hbm, 226, rfl⟩
abbrev main_v156 : Ref sig .tc := ⟨.hbm, 227, rfl⟩
abbrev main_v157 : Ref sig .tc := ⟨.hbm, 228, rfl⟩
abbrev main_cst_45 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_cst_46 : Ref sig .tc := ⟨.hbm, 236, rfl⟩
abbrev main_v164 : Ref sig .tc := ⟨.hbm, 237, rfl⟩
abbrev main_v165 : Ref sig .tc := ⟨.hbm, 238, rfl⟩
abbrev main_cst_47 : Ref sig .tc := ⟨.hbm, 239, rfl⟩
abbrev main_v166 : Ref sig .tc := ⟨.hbm, 240, rfl⟩
abbrev main_v167 : Ref sig .tc := ⟨.hbm, 241, rfl⟩
abbrev main_cst_48 : Ref sig .tc := ⟨.hbm, 242, rfl⟩
abbrev main_v168 : Ref sig .tc := ⟨.hbm, 243, rfl⟩
abbrev main_v169 : Ref sig .tc := ⟨.hbm, 244, rfl⟩
abbrev main_cst_49 : Ref sig .tc := ⟨.hbm, 245, rfl⟩
abbrev main_v170 : Ref sig .tc := ⟨.hbm, 246, rfl⟩
abbrev main_v171 : Ref sig .tc := ⟨.hbm, 247, rfl⟩
abbrev main_cst_50 : Ref sig .tc := ⟨.hbm, 248, rfl⟩
abbrev main_v172 : Ref sig .tc := ⟨.hbm, 249, rfl⟩
abbrev main_v173 : Ref sig .tc := ⟨.hbm, 250, rfl⟩
abbrev main_cst_51 : Ref sig .tc := ⟨.hbm, 251, rfl⟩
abbrev main_v174 : Ref sig .tc := ⟨.hbm, 252, rfl⟩
abbrev main_v175 : Ref sig .tc := ⟨.hbm, 253, rfl⟩
abbrev main_cst_52 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_cst_53 : Ref sig .tc := ⟨.hbm, 260, rfl⟩
abbrev main_v181 : Ref sig .tc := ⟨.hbm, 261, rfl⟩
abbrev main_v182 : Ref sig .tc := ⟨.hbm, 262, rfl⟩
abbrev main_cst_54 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_c_55 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_c_56 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_c_57 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_c_58 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_cst_59 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_c_60 : Ref sig .tc := ⟨.hbm, 304, rfl⟩
abbrev main_v218 : Ref sig .tc := ⟨.hbm, 305, rfl⟩
abbrev main_v219 : Ref sig .tc := ⟨.hbm, 306, rfl⟩
abbrev main_c_61 : Ref sig .tc := ⟨.hbm, 307, rfl⟩
abbrev main_v220 : Ref sig .tc := ⟨.hbm, 308, rfl⟩
abbrev main_v221 : Ref sig .tc := ⟨.hbm, 309, rfl⟩
abbrev main_c_62 : Ref sig .tc := ⟨.hbm, 310, rfl⟩
abbrev main_v222 : Ref sig .tc := ⟨.hbm, 311, rfl⟩
abbrev main_v223 : Ref sig .tc := ⟨.hbm, 312, rfl⟩
abbrev main_c_63 : Ref sig .tc := ⟨.hbm, 313, rfl⟩
abbrev main_v224 : Ref sig .tc := ⟨.hbm, 314, rfl⟩
abbrev main_v225 : Ref sig .tc := ⟨.hbm, 315, rfl⟩
abbrev main_c_64 : Ref sig .tc := ⟨.hbm, 316, rfl⟩
abbrev main_v226 : Ref sig .tc := ⟨.hbm, 317, rfl⟩
abbrev main_v227 : Ref sig .tc := ⟨.hbm, 318, rfl⟩
abbrev main_c_65 : Ref sig .tc := ⟨.hbm, 319, rfl⟩
abbrev main_v228 : Ref sig .tc := ⟨.hbm, 320, rfl⟩
abbrev main_v229 : Ref sig .tc := ⟨.hbm, 321, rfl⟩
abbrev main_c_66 : Ref sig .tc := ⟨.hbm, 322, rfl⟩
abbrev main_v230 : Ref sig .tc := ⟨.hbm, 323, rfl⟩
abbrev main_v231 : Ref sig .tc := ⟨.hbm, 324, rfl⟩
abbrev main_cst_67 : Ref sig .tc := ⟨.hbm, 325, rfl⟩
abbrev main_cst_68 : Ref sig .tc := ⟨.hbm, 326, rfl⟩
abbrev main_call11_v0 : Ref sig .tc := ⟨.hbm, 327, rfl⟩
abbrev main_call11_v1 : Ref sig .tc := ⟨.hbm, 328, rfl⟩
abbrev main_v232 : Ref sig .tc := ⟨.hbm, 329, rfl⟩
abbrev main_c_69 : Ref sig .tc := ⟨.hbm, 330, rfl⟩
abbrev main_v233 : Ref sig .tc := ⟨.hbm, 331, rfl⟩
abbrev main_v234 : Ref sig .tc := ⟨.hbm, 332, rfl⟩
abbrev main_c_70 : Ref sig .tc := ⟨.hbm, 333, rfl⟩
abbrev main_v235 : Ref sig .tc := ⟨.hbm, 334, rfl⟩
abbrev main_v236 : Ref sig .tc := ⟨.hbm, 335, rfl⟩
abbrev main_cst_71 : Ref sig .tc := ⟨.hbm, 336, rfl⟩
abbrev main_cst_72 : Ref sig .tc := ⟨.hbm, 337, rfl⟩
abbrev main_call12_v0 : Ref sig .tc := ⟨.hbm, 338, rfl⟩
abbrev main_call12_v1 : Ref sig .tc := ⟨.hbm, 339, rfl⟩
abbrev main_v237 : Ref sig .tc := ⟨.hbm, 340, rfl⟩
abbrev main_v238 : Ref sig .tc := ⟨.hbm, 341, rfl⟩
abbrev main_c_73 : Ref sig .tc := ⟨.hbm, 342, rfl⟩
abbrev main_v239 : Ref sig .tc := ⟨.hbm, 343, rfl⟩
abbrev main_v240 : Ref sig .tc := ⟨.hbm, 344, rfl⟩
abbrev main_c_74 : Ref sig .tc := ⟨.hbm, 345, rfl⟩
abbrev main_v241 : Ref sig .tc := ⟨.hbm, 346, rfl⟩
abbrev main_v242 : Ref sig .tc := ⟨.hbm, 347, rfl⟩
abbrev main_c_75 : Ref sig .tc := ⟨.hbm, 348, rfl⟩
abbrev main_v243 : Ref sig .tc := ⟨.hbm, 349, rfl⟩
abbrev main_v244 : Ref sig .tc := ⟨.hbm, 350, rfl⟩
abbrev main_c_76 : Ref sig .tc := ⟨.hbm, 351, rfl⟩
abbrev main_v245 : Ref sig .tc := ⟨.hbm, 352, rfl⟩
abbrev main_v246 : Ref sig .tc := ⟨.hbm, 353, rfl⟩
abbrev main_cst_77 : Ref sig .tc := ⟨.hbm, 354, rfl⟩
abbrev main_cst_78 : Ref sig .tc := ⟨.hbm, 355, rfl⟩
abbrev main_call14_v0 : Ref sig .tc := ⟨.hbm, 356, rfl⟩
abbrev main_call14_v1 : Ref sig .tc := ⟨.hbm, 357, rfl⟩
abbrev main_v247 : Ref sig .tc := ⟨.hbm, 358, rfl⟩
abbrev main_c_79 : Ref sig .tc := ⟨.hbm, 359, rfl⟩
abbrev main_v248 : Ref sig .tc := ⟨.hbm, 360, rfl⟩
abbrev main_v249 : Ref sig .tc := ⟨.hbm, 361, rfl⟩
abbrev main_c_80 : Ref sig .tc := ⟨.hbm, 362, rfl⟩
abbrev main_v250 : Ref sig .tc := ⟨.hbm, 363, rfl⟩
abbrev main_v251 : Ref sig .tc := ⟨.hbm, 364, rfl⟩
abbrev main_cst_81 : Ref sig .tc := ⟨.hbm, 365, rfl⟩
abbrev main_cst_82 : Ref sig .tc := ⟨.hbm, 366, rfl⟩
abbrev main_call15_v0 : Ref sig .tc := ⟨.hbm, 367, rfl⟩
abbrev main_call15_v1 : Ref sig .tc := ⟨.hbm, 368, rfl⟩
abbrev main_v252 : Ref sig .tc := ⟨.hbm, 369, rfl⟩
abbrev main_v253 : Ref sig .tc := ⟨.hbm, 370, rfl⟩
abbrev main_v254 : Ref sig .tc := ⟨.hbm, 371, rfl⟩
abbrev main_c_83 : Ref sig .tc := ⟨.hbm, 372, rfl⟩
abbrev main_v255 : Ref sig .tc := ⟨.hbm, 373, rfl⟩
abbrev main_v256 : Ref sig .tc := ⟨.hbm, 374, rfl⟩
abbrev main_c_84 : Ref sig .tc := ⟨.hbm, 375, rfl⟩
abbrev main_v257 : Ref sig .tc := ⟨.hbm, 376, rfl⟩
abbrev main_v258 : Ref sig .tc := ⟨.hbm, 377, rfl⟩
abbrev main_v259 : Ref sig .tc := ⟨.hbm, 378, rfl⟩
abbrev main_v260 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_c_85 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_cst_86 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_c_87 : Ref sig .tc := ⟨.hbm, 402, rfl⟩
abbrev main_v281 : Ref sig .tc := ⟨.hbm, 403, rfl⟩
abbrev main_v282 : Ref sig .tc := ⟨.hbm, 404, rfl⟩
abbrev main_c_88 : Ref sig .tc := ⟨.hbm, 405, rfl⟩
abbrev main_v283 : Ref sig .tc := ⟨.hbm, 406, rfl⟩
abbrev main_v284 : Ref sig .tc := ⟨.hbm, 407, rfl⟩
abbrev main_c_89 : Ref sig .tc := ⟨.hbm, 408, rfl⟩
abbrev main_v285 : Ref sig .tc := ⟨.hbm, 409, rfl⟩
abbrev main_v286 : Ref sig .tc := ⟨.hbm, 410, rfl⟩
abbrev main_c_90 : Ref sig .tc := ⟨.hbm, 411, rfl⟩
abbrev main_v287 : Ref sig .tc := ⟨.hbm, 412, rfl⟩
abbrev main_v288 : Ref sig .tc := ⟨.hbm, 413, rfl⟩
abbrev main_c_91 : Ref sig .tc := ⟨.hbm, 414, rfl⟩
abbrev main_v289 : Ref sig .tc := ⟨.hbm, 415, rfl⟩
abbrev main_v290 : Ref sig .tc := ⟨.hbm, 416, rfl⟩
abbrev main_c_92 : Ref sig .tc := ⟨.hbm, 417, rfl⟩
abbrev main_v291 : Ref sig .tc := ⟨.hbm, 418, rfl⟩
abbrev main_v292 : Ref sig .tc := ⟨.hbm, 419, rfl⟩
abbrev main_c_93 : Ref sig .tc := ⟨.hbm, 420, rfl⟩
abbrev main_v293 : Ref sig .tc := ⟨.hbm, 421, rfl⟩
abbrev main_v294 : Ref sig .tc := ⟨.hbm, 422, rfl⟩
abbrev main_cst_94 : Ref sig .tc := ⟨.hbm, 423, rfl⟩
abbrev main_cst_95 : Ref sig .tc := ⟨.hbm, 424, rfl⟩
abbrev main_call19_v0 : Ref sig .tc := ⟨.hbm, 425, rfl⟩
abbrev main_call19_v1 : Ref sig .tc := ⟨.hbm, 426, rfl⟩
abbrev main_v295 : Ref sig .tc := ⟨.hbm, 427, rfl⟩
abbrev main_c_96 : Ref sig .tc := ⟨.hbm, 428, rfl⟩
abbrev main_v296 : Ref sig .tc := ⟨.hbm, 429, rfl⟩
abbrev main_v297 : Ref sig .tc := ⟨.hbm, 430, rfl⟩
abbrev main_c_97 : Ref sig .tc := ⟨.hbm, 431, rfl⟩
abbrev main_v298 : Ref sig .tc := ⟨.hbm, 432, rfl⟩
abbrev main_v299 : Ref sig .tc := ⟨.hbm, 433, rfl⟩
abbrev main_cst_98 : Ref sig .tc := ⟨.hbm, 434, rfl⟩
abbrev main_cst_99 : Ref sig .tc := ⟨.hbm, 435, rfl⟩
abbrev main_call20_v0 : Ref sig .tc := ⟨.hbm, 436, rfl⟩
abbrev main_call20_v1 : Ref sig .tc := ⟨.hbm, 437, rfl⟩
abbrev main_v300 : Ref sig .tc := ⟨.hbm, 438, rfl⟩
abbrev main_v301 : Ref sig .tc := ⟨.hbm, 439, rfl⟩
abbrev main_c_100 : Ref sig .tc := ⟨.hbm, 440, rfl⟩
abbrev main_v302 : Ref sig .tc := ⟨.hbm, 441, rfl⟩
abbrev main_v303 : Ref sig .tc := ⟨.hbm, 442, rfl⟩
abbrev main_c_101 : Ref sig .tc := ⟨.hbm, 443, rfl⟩
abbrev main_v304 : Ref sig .tc := ⟨.hbm, 444, rfl⟩
abbrev main_v305 : Ref sig .tc := ⟨.hbm, 445, rfl⟩
abbrev main_c_102 : Ref sig .tc := ⟨.hbm, 446, rfl⟩
abbrev main_v306 : Ref sig .tc := ⟨.hbm, 447, rfl⟩
abbrev main_v307 : Ref sig .tc := ⟨.hbm, 448, rfl⟩
abbrev main_c_103 : Ref sig .tc := ⟨.hbm, 449, rfl⟩
abbrev main_v308 : Ref sig .tc := ⟨.hbm, 450, rfl⟩
abbrev main_v309 : Ref sig .tc := ⟨.hbm, 451, rfl⟩
abbrev main_cst_104 : Ref sig .tc := ⟨.hbm, 452, rfl⟩
abbrev main_cst_105 : Ref sig .tc := ⟨.hbm, 453, rfl⟩
abbrev main_call22_v0 : Ref sig .tc := ⟨.hbm, 454, rfl⟩
abbrev main_call22_v1 : Ref sig .tc := ⟨.hbm, 455, rfl⟩
abbrev main_v310 : Ref sig .tc := ⟨.hbm, 456, rfl⟩
abbrev main_c_106 : Ref sig .tc := ⟨.hbm, 457, rfl⟩
abbrev main_v311 : Ref sig .tc := ⟨.hbm, 458, rfl⟩
abbrev main_v312 : Ref sig .tc := ⟨.hbm, 459, rfl⟩
abbrev main_c_107 : Ref sig .tc := ⟨.hbm, 460, rfl⟩
abbrev main_v313 : Ref sig .tc := ⟨.hbm, 461, rfl⟩
abbrev main_v314 : Ref sig .tc := ⟨.hbm, 462, rfl⟩
abbrev main_cst_108 : Ref sig .tc := ⟨.hbm, 463, rfl⟩
abbrev main_cst_109 : Ref sig .tc := ⟨.hbm, 464, rfl⟩
abbrev main_call23_v0 : Ref sig .tc := ⟨.hbm, 465, rfl⟩
abbrev main_call23_v1 : Ref sig .tc := ⟨.hbm, 466, rfl⟩
abbrev main_v315 : Ref sig .tc := ⟨.hbm, 467, rfl⟩
abbrev main_v316 : Ref sig .tc := ⟨.hbm, 468, rfl⟩
abbrev main_v317 : Ref sig .tc := ⟨.hbm, 469, rfl⟩
abbrev main_c_110 : Ref sig .tc := ⟨.hbm, 470, rfl⟩
abbrev main_v318 : Ref sig .tc := ⟨.hbm, 471, rfl⟩
abbrev main_v319 : Ref sig .tc := ⟨.hbm, 472, rfl⟩
abbrev main_c_111 : Ref sig .tc := ⟨.hbm, 473, rfl⟩
abbrev main_v320 : Ref sig .tc := ⟨.hbm, 474, rfl⟩
abbrev main_v321 : Ref sig .tc := ⟨.hbm, 475, rfl⟩
abbrev main_v322 : Ref sig .tc := ⟨.hbm, 476, rfl⟩
abbrev main_v323 : Ref sig .tc := ⟨.hbm, 477, rfl⟩
abbrev main_v324 : Ref sig .tc := ⟨.hbm, 478, rfl⟩
abbrev main_v325 : Ref sig .tc := ⟨.hbm, 479, rfl⟩
abbrev main_v326 : Ref sig .tc := ⟨.hbm, 480, rfl⟩
abbrev main_v327 : Ref sig .tc := ⟨.hbm, 481, rfl⟩
abbrev main_v328 : Ref sig .tc := ⟨.hbm, 482, rfl⟩
abbrev main_v329 : Ref sig .tc := ⟨.hbm, 483, rfl⟩
abbrev main_v330 : Ref sig .tc := ⟨.hbm, 484, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

/-! The kernel's run, with every array in hand: it terminates, and each final state holds in every buffer that
    outlives the run what the last of the five stretches leaves there. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters the program terminates without fault, and every final state holds in each
    unscoped buffer the contents at the last boundary. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.KernelIdeal.Gen
-- ==== Proof.Block.lean ====
/- One block of sixty-four tokens of the quantiser, as functions of the rotated block and of its random
   numbers: the exponents of its two groups, the quantised magnitudes, the codes and the values. -/
module

public import proofs.«01_k».proof.Proof.Gen.KernelIdeal.Frame.Region0
public import proofs.«01_k».proof.Proof.Gen.KernelIdeal.Frame.Region1

@[expose] public section

set_option maxRecDepth 16384

noncomputable section

namespace Cert.KernelIdeal.Blk

open Idealize.ShloMosaic Idealize.SL.Sem Facts₀ Facts

variable {F : FTy → Type} [FloatOps F]

/-- The column maxima of the magnitudes of sixteen rows. -/
def colMax (v : FVec F S16x256 .f32) : FVec F S1x256 .f32 :=
  shapeCast S1x256 (multiReduction .maximumf [0] S256 (absf v) 0xFF800000#32 reduces_S16x256_S256 (.inl rfl) rfl)
    shapeCasts_S256_S1x256

/-- The largest magnitude of each column over the first group of a rotated block (rows 0 to 15 and 32 to 47). -/
def amax0 (r : FVec F S64x256 .f32) : FVec F S1x256 .f32 :=
  maximumf (colMax (extractStridedSlice S16x256 ![0, 0] r slices_S64x256_o0_0_S16x256))
    (colMax (extractStridedSlice S16x256 ![32, 0] r slices_S64x256_o32_0_S16x256))

/-- The largest magnitude of each column over the second group (rows 16 to 31 and 48 to 63). -/
def amax1 (r : FVec F S64x256 .f32) : FVec F S1x256 .f32 :=
  maximumf (colMax (extractStridedSlice S16x256 ![16, 0] r slices_S64x256_o16_0_S16x256))
    (colMax (extractStridedSlice S16x256 ![48, 0] r slices_S64x256_o48_0_S16x256))

/-- For each column, how many of the 252 powers of two from 2 ^ -126 on are at most `x`. -/
def field (x : FVec F S1x256 .f32) : IVec S1x256 32 :=
  shapeCast S1x256
    (multiReductionI .add [0] S256
      (extui 32 (cmpf .oge (broadcastTo S252x256 x broadcasts_S1x256_S252x256)
        (broadcastTo S252x256
          (bitcastToFloat .f32 (shli (addi (iota .tc S252x1 32 [0] iota_S252x1_d0_w32) (broadcast S252x1 1#32)) (broadcast S252x1 23#32)))
          broadcasts_S252x1_S252x256)) natLt_1_32) 0#32 reduces_S252x256_S256 rfl)
    shapeCasts_S256_S1x256

/-- The exponent of each column's group. -/
def expo (a : FVec F S1x256 .f32) : IVec S1x256 32 :=
  select (cmpi .eq (field (mulf a (broadcast S1x256 (Scalar.ofBits .f32 0x3E2AAAAB#32)))) (broadcast S1x256 0#32))
    (broadcast S1x256 0#32)
    (subi (field (mulf a (broadcast S1x256 (Scalar.ofBits .f32 0x3E2AAAAB#32)))) (broadcast S1x256 126#32))

/-- The exponents of thirty-two rows: sixteen of the first group, sixteen of the second. -/
def rowsE (e0 e1 : IVec S1x256 32) : IVec S32x256 32 :=
  concatenate S32x256 0
    [⟨S16x256, broadcastTo S16x256 (shapeCast S1x256 e0 shapeCasts_S1x256_S1x256) broadcasts_S1x256_S16x256⟩,
     ⟨S16x256, broadcastTo S16x256 (shapeCast S1x256 e1 shapeCasts_S1x256_S1x256) broadcasts_S1x256_S16x256⟩]
    concatenates_S16x256_S16x256_S32x256_d0

/-- Two to the power `e`, from its bits. -/
def pow2 (e : IVec S32x256 32) : FVec F S32x256 .f32 :=
  bitcastToFloat .f32 (shli (addi e (broadcast S32x256 127#32)) (broadcast S32x256 23#32))

/-- The rows scaled down by their exponents. -/
def scaled (rr : FVec F S32x256 .f32) (eb : IVec S32x256 32) : FVec F S32x256 .f32 :=
  mulf rr (pow2 (subi (broadcast S32x256 0#32) eb))

/-- `x` where `t < a`, else `y` where `t < b`, else `z`, on constants. -/
def pick (t : FVec F S32x256 .f32) (x y z : BitVec 32) : FVec F S32x256 .f32 :=
  select (cmpf .olt t (broadcast S32x256 (Scalar.ofBits .f32 0x40000000#32))) (broadcast S32x256 (Scalar.ofBits .f32 x))
    (select (cmpf .olt t (broadcast S32x256 (Scalar.ofBits .f32 0x40800000#32))) (broadcast S32x256 (Scalar.ofBits .f32 y))
      (broadcast S32x256 (Scalar.ofBits .f32 z)))

/-- The quantised magnitude, rounded up when the random number is below the fraction. -/
def quant (y rb : FVec F S32x256 .f32) : FVec F S32x256 .f32 :=
  minimumf
    (mulf
      (addf (floor (mulf (absf y) (pick (absf y) 0x40000000#32 0x3F800000#32 0x3F000000#32)))
        (sitofp .f32 (extui 32
          (cmpf .olt
            (mulf (addf rb (broadcast S32x256 (Scalar.ofBits .f32 0x3F000000#32))) (broadcast S32x256 (Scalar.ofBits .f32 0x3B800000#32)))
            (subf (mulf (absf y) (pick (absf y) 0x40000000#32 0x3F800000#32 0x3F000000#32))
              (floor (mulf (absf y) (pick (absf y) 0x40000000#32 0x3F800000#32 0x3F000000#32))))) natLt_1_32)))
      (pick (absf y) 0x3F000000#32 0x3F800000#32 0x40000000#32))
    (broadcast S32x256 (Scalar.ofBits .f32 0x40C00000#32))

/-- Whether the quantised number is negative. -/
def isNeg (y q : FVec F S32x256 .f32) : IVec S32x256 1 :=
  andi (cmpf .olt y (broadcast S32x256 (Scalar.ofBits .f32 0x00000000#32)))
    (cmpf .ogt q (broadcast S32x256 (Scalar.ofBits .f32 0x00000000#32)))

/-- The four-bit code of a quantised magnitude and a sign. -/
def codeOf (q : FVec F S32x256 .f32) (neg : IVec S32x256 1) : IVec S32x256 32 :=
  ori
    (fptosi 32
      (select (cmpf .olt q (broadcast S32x256 (Scalar.ofBits .f32 0x40000000#32)))
        (mulf (broadcast S32x256 (Scalar.ofBits .f32 0x40000000#32)) q)
        (select (cmpf .olt q (broadcast S32x256 (Scalar.ofBits .f32 0x40800000#32)))
          (addf q (broadcast S32x256 (Scalar.ofBits .f32 0x40000000#32)))
          (addf (mulf (broadcast S32x256 (Scalar.ofBits .f32 0x3F000000#32)) q) (broadcast S32x256 (Scalar.ofBits .f32 0x40800000#32))))))
    (select neg (broadcast S32x256 8#32) (broadcast S32x256 0#32))

/-- The quantised number itself, scaled back up. -/
def valOf (q : FVec F S32x256 .f32) (neg : IVec S32x256 1) (eb : IVec S32x256 32) : FVec F S32x256 .f32 :=
  mulf (select neg (subf (broadcast S32x256 (Scalar.ofBits .f32 0x00000000#32)) q) q) (pow2 eb)

/-- The scaled rows of one half of a block. -/
def yE (r : FVec F S64x256 .f32) : FVec F S32x256 .f32 :=
  scaled (extractStridedSlice S32x256 ![0, 0] r slices_S64x256_o0_0_S32x256) (rowsE (expo (amax0 r)) (expo (amax1 r)))
/-- The scaled rows of the other half. -/
def yO (r : FVec F S64x256 .f32) : FVec F S32x256 .f32 :=
  scaled (extractStridedSlice S32x256 ![32, 0] r slices_S64x256_o32_0_S32x256) (rowsE (expo (amax0 r)) (expo (amax1 r)))
/-- The quantised magnitudes of the even tokens. -/
def qE (r rb : FVec F S64x256 .f32) : FVec F S32x256 .f32 :=
  quant (yE r) (extractStridedSlice S32x256 ![0, 0] rb slices_S64x256_o0_0_S32x256)
/-- The quantised magnitudes of the odd tokens. -/
def qO (r rb : FVec F S64x256 .f32) : FVec F S32x256 .f32 :=
  quant (yO r) (extractStridedSlice S32x256 ![32, 0] rb slices_S64x256_o32_0_S32x256)

/-- The packed codes of a block: the even tokens' code low, the odd tokens' high. -/
def codes (r rb : FVec F S64x256 .f32) : IVec S1x32x256 8 :=
  shapeCast S1x32x256
    (trunci 8 (ori (codeOf (qE r rb) (isNeg (yE r) (qE r rb)))
      (shli (codeOf (qO r rb) (isNeg (yO r) (qO r rb))) (broadcast S32x256 4#32))) natLt_8_32)
    shapeCasts_S32x256_S1x32x256

/-- The values of the even tokens. -/
def valE (r rb : FVec F S64x256 .f32) : FVec F S1x32x256 .bf16 :=
  shapeCast S1x32x256
    (truncf .bf16 (valOf (qE r rb) (isNeg (yE r) (qE r rb)) (rowsE (expo (amax0 r)) (expo (amax1 r)))) bitsLt_bf16_f32)
    shapeCasts_S32x256_S1x32x256
/-- The values of the odd tokens. -/
def valO (r rb : FVec F S64x256 .f32) : FVec F S1x32x256 .bf16 :=
  shapeCast S1x32x256
    (truncf .bf16 (valOf (qO r rb) (isNeg (yO r) (qO r rb)) (rowsE (expo (amax0 r)) (expo (amax1 r)))) bitsLt_bf16_f32)
    shapeCasts_S32x256_S1x32x256
/-- A row of scales. -/
def scaleRow (e : IVec S1x256 32) : IVec S1x256 32 := addi e (broadcast S1x256 127#32)

/-- A rotated block of the activation. -/
def rotX (x0 x1 : Vec F S1x64x256 .bf16) (m : Vec F S64x64 .f32) : FVec F S64x256 .f32 := Gen.k0_pay6 x0 x1 m
/-- The reordered random numbers of a block. -/
def rnd (x4 : Vec F S1x64x256 .i8) (p : Vec F S64x64 .bf16) : FVec F S64x256 .f32 := Gen.k0_pay7 x4 p
/-- A rotated block of the gradient. -/
def rotY (x0 : Vec F S1x64x256 .bf16) (m : Vec F S64x64 .f32) : FVec F S64x256 .f32 :=
  matmul dot_S64x64_S64x256_S64x256_1_0_0_1_n_n (some .fp32) (shapeCast S64x64 m shapeCasts_S64x64_S64x64)
    (extf .f32 (shapeCast S64x256 x0 shapeCasts_S1x64x256_S64x256) bitsLt_bf16_f32) (constant S64x256 .f32 0x00000000#32)

end Cert.KernelIdeal.Blk
-- ==== Proof.Scalar.lean ====
/- The arithmetic of one number: the exponent of a group, the stochastic rounding to four-bit floats, the
   codes and their decoding, each in the kernel's form and in the reference's, on the extended reals. -/
module

public import Idealize.ShloMosaic.Lib.Pipeline.ValueKit
public import Mathlib.Analysis.SpecialFunctions.Pow.Real

@[expose] public section

set_option maxRecDepth 16384

noncomputable section

namespace Cert.Quant

open Idealize.ShloMosaic

/-- The number an f32 bit pattern stands for. -/
abbrev lit (b : BitVec 32) : EReal := Ideal.ofBits .f32 b

/-- Two to an integer power, as an extended real. -/
abbrev two (z : ℤ) : EReal := (((2 : ℝ) ^ z : ℝ) : EReal)

/-! ## Constants -/

/-- A positive normal number, from its exponent and fraction fields. -/
theorem lit_normal (b : BitVec 32) (ex fr : ℕ) (h1 : b.extractLsb' 31 1 = 0#1)
    (h2 : (b.extractLsb' 23 8).toNat = ex) (h3 : (b.extractLsb' 0 23).toNat = fr) (h4 : ex ≠ 255) (h5 : ex ≠ 0) :
    lit b = (((2 ^ 23 + (fr : ℝ)) * (2 : ℝ) ^ ((ex : ℤ) - 150) : ℝ) : EReal) := by
  have e : (ex : ℤ) - (2 ^ (8 - 1) - 1) - 23 = (ex : ℤ) - 150 := by norm_num; ring
  have h6 : (b.extractLsb' 31 1 == 1#1) = false := by rw [h1]; rfl
  simp only [lit, Ideal.ofBits, Ideal.ieee]
  rw [h1, h2, h3, if_neg (by norm_num; omega), if_neg (by omega), EReal.coe_eq_coe_iff]
  simp [sub_sub]
  norm_num

theorem lit_half : lit 0x3F000000#32 = (((1 : ℝ) / 2 : ℝ) : EReal) := by
  rw [lit_normal 0x3F000000#32 126 0 (by decide) (by decide) (by decide) (by decide) (by decide)]
  norm_num [zpow_neg, zpow_ofNat]
theorem lit_one : lit 0x3F800000#32 = ((1 : ℝ) : EReal) := by
  rw [lit_normal 0x3F800000#32 127 0 (by decide) (by decide) (by decide) (by decide) (by decide)]
  norm_num [zpow_neg, zpow_ofNat]
theorem lit_two : lit 0x40000000#32 = ((2 : ℝ) : EReal) := by
  rw [lit_normal 0x40000000#32 128 0 (by decide) (by decide) (by decide) (by decide) (by decide)]
  norm_num [zpow_neg, zpow_ofNat]
theorem lit_three : lit 0x40400000#32 = ((3 : ℝ) : EReal) := by
  rw [lit_normal 0x40400000#32 128 4194304 (by decide) (by decide) (by decide) (by decide) (by decide)]
  norm_num [zpow_neg, zpow_ofNat]
theorem lit_threeHalves : lit 0x3FC00000#32 = (((3 : ℝ) / 2 : ℝ) : EReal) := by
  rw [lit_normal 0x3FC00000#32 127 4194304 (by decide) (by decide) (by decide) (by decide) (by decide)]
  norm_num [zpow_neg, zpow_ofNat]
theorem lit_four : lit 0x40800000#32 = ((4 : ℝ) : EReal) := by
  rw [lit_normal 0x40800000#32 129 0 (by decide) (by decide) (by decide) (by decide) (by decide)]
  norm_num [zpow_neg, zpow_ofNat]
theorem lit_six : lit 0x40C00000#32 = ((6 : ℝ) : EReal) := by
  rw [lit_normal 0x40C00000#32 129 4194304 (by decide) (by decide) (by decide) (by decide) (by decide)]
  norm_num [zpow_neg, zpow_ofNat]
theorem lit_256 : lit 0x43800000#32 = ((256 : ℝ) : EReal) := by
  rw [lit_normal 0x43800000#32 135 0 (by decide) (by decide) (by decide) (by decide) (by decide)]
  norm_num [zpow_neg, zpow_ofNat]
theorem lit_inv256 : lit 0x3B800000#32 = (((1 : ℝ) / 256 : ℝ) : EReal) := by
  rw [lit_normal 0x3B800000#32 119 0 (by decide) (by decide) (by decide) (by decide) (by decide)]
  norm_num [zpow_neg, zpow_ofNat]
theorem lit_126 : lit 0x42FC0000#32 = ((126 : ℝ) : EReal) := by
  rw [lit_normal 0x42FC0000#32 133 8126464 (by decide) (by decide) (by decide) (by decide) (by decide)]
  norm_num [zpow_neg, zpow_ofNat]
theorem lit_tiny : lit 0x00800000#32 = two (-126) := by
  rw [lit_normal 0x00800000#32 1 0 (by decide) (by decide) (by decide) (by decide) (by decide)]
  norm_num [two]
theorem lit_sixth : (0 : EReal) ≤ lit 0x3E2AAAAB#32 := by
  rw [lit_normal 0x3E2AAAAB#32 124 2796203 (by decide) (by decide) (by decide) (by decide) (by decide)]
  exact EReal.coe_nonneg.2 (by positivity)
theorem lit_zero : lit 0x00000000#32 = 0 := by simp [lit, Ideal.ofBits, Ideal.ieee]
theorem lit_bot : lit 0xFF800000#32 = ⊥ := by
  simp [lit, Ideal.ofBits, Ideal.ieee]

/-! ## The exponent -/

/-- How many of the powers 2 ^ -126 … 2 ^ 125 are at most `x`. -/
def count (x : EReal) : ℕ := ((Finset.range 252).filter fun f : ℕ => two ((f : ℤ) - 126) ≤ x).card

/-- The exponent from the count: none, zero; otherwise one more than the largest such power's. -/
def sE (x : EReal) : BitVec 32 :=
  Scalar.select (IntOp.cmpi .eq (BitVec.ofNat 32 (count x)) 0#32) 0#32 (IntOp.subi (BitVec.ofNat 32 (count x)) 126#32)

/-- The reference's exponent: the floor of the binary logarithm, plus one, at most 126, and zero below 2 ^ -126. -/
def rE (x : EReal) : EReal :=
  Scalar.select (Ideal.cmp .olt x (lit 0x00800000#32)) (lit 0x00000000#32)
    (min (Ideal.liftRound Int.floor (Ideal.div (Ideal.log x) (Ideal.log (lit 0x40000000#32))) + lit 0x3F800000#32) (lit 0x42FC0000#32))

theorem count_le (x : EReal) : count x ≤ 252 := (Finset.card_filter_le _ _).trans (by simp)

theorem count_top : count ⊤ = 252 := by simp [count]

/-- Below the least power none counts. -/
theorem count_of_lt {x : EReal} (h : x < two (-126)) : count x = 0 := by
  unfold count
  rw [Finset.card_eq_zero, Finset.filter_eq_empty_iff]
  intro f _ hf
  refine absurd (hf.trans_lt h) (not_lt.2 ?_)
  exact EReal.coe_le_coe_iff.2 (zpow_le_zpow_right₀ (by norm_num) (by omega))

theorem two_le_iff {r : ℝ} (hr : 0 < r) (z : ℤ) : two z ≤ (r : EReal) ↔ z ≤ ⌊Real.log r / Real.log 2⌋ := by
  have h2 : 0 < Real.log 2 := Real.log_pos (by norm_num)
  rw [EReal.coe_le_coe_iff, Int.le_floor, le_div_iff₀ h2, ← Real.log_zpow, Real.log_le_log_iff (zpow_pos (by norm_num) _) hr]

/-- From the least power on, the count is read off the floor of the logarithm. -/
theorem count_coe {r : ℝ} (hr : 0 < r) (h : -126 ≤ ⌊Real.log r / Real.log 2⌋) :
    (count r : ℤ) = min 252 (⌊Real.log r / Real.log 2⌋ + 127) := by
  have hs : ((Finset.range 252).filter fun f : ℕ => two ((f : ℤ) - 126) ≤ (r : EReal))
      = Finset.range (min 252 (⌊Real.log r / Real.log 2⌋ + 127).toNat) := by
    ext f
    rw [Finset.mem_filter, Finset.mem_range, Finset.mem_range, two_le_iff hr]
    omega
  unfold count
  rw [hs, Finset.card_range]
  omega

theorem sE_zero {x : EReal} (h : count x = 0) : sE x = 0#32 := by
  unfold sE; rw [h]; rfl

theorem sE_toInt_of {x : EReal} {n : ℕ} (hn : count x = n) (h0 : n ≠ 0) : (sE x).toInt = (n : ℤ) - 126 := by
  have hle := count_le x
  have key : ∀ n : Fin 253, n.val ≠ 0 →
      (Scalar.select (IntOp.cmpi .eq (BitVec.ofNat 32 n.val) 0#32) 0#32 (IntOp.subi (BitVec.ofNat 32 n.val) 126#32)).toInt
        = (n.val : ℤ) - 126 := by decide +kernel
  unfold sE
  rw [hn]
  exact key ⟨n, by omega⟩ h0

/-- The exponent lies between -125 and 126. -/
theorem sE_range (x : EReal) : -125 ≤ (sE x).toInt ∧ (sE x).toInt ≤ 126 := by
  by_cases h : count x = 0
  · rw [sE_zero h]; decide
  · rw [sE_toInt_of rfl h]
    have := count_le x
    omega

/-- The reference's exponent of a nonnegative number is the kernel's. -/
theorem rE_eq {x : EReal} (hx : 0 ≤ x) : rE x = (((sE x).toInt : ℝ) : EReal) := by
  have h2 : 0 < Real.log 2 := Real.log_pos (by norm_num)
  unfold rE
  rw [lit_tiny, lit_zero, lit_two, lit_one, lit_126]
  by_cases h : x < two (-126)
  · rw [sE_zero (count_of_lt h)]
    simp [Ideal.cmp, h, Scalar.select]
  have hc : Ideal.cmp .olt x (two (-126)) = 0#1 := by simp [Ideal.cmp, h]
  rw [hc]
  simp only [Scalar.select]
  rw [if_neg (by decide)]
  have hl2 : Ideal.log ((2 : ℝ) : EReal) = ((Real.log 2 : ℝ) : EReal) := by simp
  rw [hl2, Ideal.div_coe h2.ne']
  induction x with
  | bot => exact absurd hx (by simp)
  | top =>
    rw [sE_toInt_of count_top (by decide)]
    have : Ideal.log ⊤ * ((1 / Real.log 2 : ℝ) : EReal) = ⊤ := by
      show (⊤ : EReal) * _ = ⊤
      exact EReal.top_mul_coe_of_pos (by positivity)
    rw [this]
    show min ((⊤ : EReal) + ((1 : ℝ) : EReal)) _ = _
    rw [EReal.top_add_coe, min_eq_right le_top]
    norm_num
  | coe r =>
    have hr : 0 < r := by
      have h1 : two (-126) ≤ (r : EReal) := not_lt.1 h
      exact lt_of_lt_of_le (zpow_pos (by norm_num) _) (EReal.coe_le_coe_iff.1 h1)
    have hL : -126 ≤ ⌊Real.log r / Real.log 2⌋ := (two_le_iff hr _).1 (not_lt.1 h)
    have hlog : Ideal.log (r : EReal) = ((Real.log r : ℝ) : EReal) := by
      show (if r ≤ 0 then ⊥ else (Real.log r : EReal)) = _
      rw [if_neg (not_le.2 hr)]
    have hn := count_coe hr hL
    have h0 : count (r : EReal) ≠ 0 := by omega
    rw [hlog, ← EReal.coe_mul, mul_one_div, sE_toInt_of rfl h0]
    show min (((⌊Real.log r / Real.log 2⌋ : ℝ) : EReal) + ((1 : ℝ) : EReal)) ((126 : ℝ) : EReal) = _
    rw [← EReal.coe_add, ← EReal.coe_strictMono.monotone.map_min, EReal.coe_eq_coe_iff]
    have : ((count (r : EReal) : ℤ) : ℝ) = min 252 ((⌊Real.log r / Real.log 2⌋ : ℝ) + 127) := by
      rw [hn]; push_cast; rfl
    push_cast at this ⊢
    rw [this, ← min_sub_sub_right]
    rw [min_comm]
    congr 1 <;> ring

/-! ## Powers of two -/

/-- Two to the power `e`, by its exponent bits. -/
def sPow (e : BitVec 32) : EReal := lit (IntOp.shli .vector (IntOp.addi e 127#32) 23#32)

theorem bits_pow : ∀ n : Fin 254,
    (IntOp.shli .vector (BitVec.ofNat 32 (n.val + 1)) 23#32).extractLsb' 31 1 = 0#1
    ∧ ((IntOp.shli .vector (BitVec.ofNat 32 (n.val + 1)) 23#32).extractLsb' 23 8).toNat = n.val + 1
    ∧ ((IntOp.shli .vector (BitVec.ofNat 32 (n.val + 1)) 23#32).extractLsb' 0 23).toNat = 0 := by decide +kernel

/-- A word whose biased exponent field is `n + 1` and whose other fields are zero stands for 2 ^ (n - 126). -/
theorem lit_pow (n : Fin 254) : lit (IntOp.shli .vector (BitVec.ofNat 32 (n.val + 1)) 23#32) = two ((n.val : ℤ) - 126) := by
  obtain ⟨h1, h2, h3⟩ := bits_pow n
  have hn := n.isLt
  simp only [lit, two, Ideal.ofBits, Ideal.ieee]
  rw [h1, h2, h3, if_neg (by norm_num; omega), if_neg (by omega)]
  rw [EReal.coe_eq_coe_iff]
  have e : ((n.val + 1 : ℕ) : ℤ) - (2 ^ (8 - 1) - 1) - 23 = ((n.val : ℤ) - 126) + (-23) := by push_cast; norm_num; ring
  rw [show ((23 : ℕ) : ℤ) = 23 from rfl, e, zpow_add₀ (by norm_num)]
  norm_num
  ring

/-- `sPow` is two to the power of the word read as an integer, wherever that is a normal number. -/
theorem sPow_eq {e : BitVec 32} (h1 : -126 ≤ e.toInt) (h2 : e.toInt ≤ 127) : sPow e = two e.toInt := by
  obtain ⟨n, hn⟩ : ∃ n : Fin 254, (n.val : ℤ) = e.toInt + 126 := ⟨⟨(e.toInt + 126).toNat, by omega⟩, by simp; omega⟩
  have he : IntOp.addi e 127#32 = BitVec.ofNat 32 (n.val + 1) := by
    apply BitVec.eq_of_toInt_eq
    show (e + 127#32).toInt = _
    rw [BitVec.toInt_add]
    have : (BitVec.ofNat 32 (n.val + 1)).toInt = (n.val : ℤ) + 1 := by
      have := n.isLt
      rw [BitVec.toInt_ofNat']
      rw [Int.bmod_def]; omega
    rw [this, hn]
    have h3 : (127#32).toInt = 127 := by decide
    rw [h3, Int.bmod_def]
    omega
  unfold sPow
  rw [he, lit_pow, hn]
  congr 2
  ring

theorem neg_toInt {e : BitVec 32} (h : -125 ≤ e.toInt ∧ e.toInt ≤ 126) : (IntOp.subi 0#32 e).toInt = -e.toInt := by
  show (0#32 - e).toInt = _
  rw [BitVec.toInt_sub]
  have h3 : (0#32).toInt = 0 := by decide
  rw [h3, Int.bmod_def]
  omega

/-- The reference's power of two, at a whole exponent. -/
theorem pow_coe (z : ℤ) : Ideal.pow (lit 0x40000000#32) ((z : ℝ) : EReal) = two z := by
  rw [lit_two]
  show ((Real.rpow 2 (z : ℝ) : ℝ) : EReal) = _
  rw [Real.rpow_eq_pow, Real.rpow_intCast]

/-- The reference's scale factor down is the kernel's. -/
theorem pow_neg_rE {x : EReal} (hx : 0 ≤ x) : Ideal.pow (lit 0x40000000#32) (-rE x) = sPow (IntOp.subi 0#32 (sE x)) := by
  have h := sE_range x
  rw [rE_eq hx, sPow_eq (by rw [neg_toInt h]; omega) (by rw [neg_toInt h]; omega), neg_toInt h, ← pow_coe]
  congr 1
  push_cast
  rfl

end Cert.Quant
-- ==== Proof.Quant.lean ====
/- The rounding of one scaled number to a four-bit float, its code, its value and the decoding, each in the
   kernel's form and in the reference's, and the equality of the two. -/
module

public import proofs.«01_k».proof.Proof.Scalar

@[expose] public section

set_option maxRecDepth 16384

noncomputable section

namespace Cert.Quant

open Idealize.ShloMosaic

/-! ## The rounding -/

/-- The magnitude. -/
def mag (y : EReal) : EReal := max y (-y)

/-- One of three constants, by where `t` stands against two and four. -/
def pick3 (t : EReal) (x y z : BitVec 32) : EReal :=
  Scalar.select (Ideal.cmp .olt t (lit 0x40000000#32)) (lit x) (Scalar.select (Ideal.cmp .olt t (lit 0x40800000#32)) (lit y) (lit z))

/-- The kernel's rounding of the scaled number `y` by the random number `rb`: multiplication by the step's inverse. -/
def sQ (y rb : EReal) : EReal :=
  min
    ((Ideal.liftRound Int.floor (mag y * pick3 (mag y) 0x40000000#32 0x3F800000#32 0x3F000000#32)
      + (((((Ideal.cmp .olt ((rb + lit 0x3F000000#32) * lit 0x3B800000#32)
            (mag y * pick3 (mag y) 0x40000000#32 0x3F800000#32 0x3F000000#32
              - Ideal.liftRound Int.floor (mag y * pick3 (mag y) 0x40000000#32 0x3F800000#32 0x3F000000#32))).setWidth 32).toInt : ℝ) : EReal)))
      * pick3 (mag y) 0x3F000000#32 0x3F800000#32 0x40000000#32)
    (lit 0x40C00000#32)

/-- The reference's rounding: division by the step. -/
def rQ (y rb : EReal) : EReal :=
  min
    ((Ideal.liftRound Int.floor (Ideal.div (mag y) (pick3 (mag y) 0x3F000000#32 0x3F800000#32 0x40000000#32))
      + ((((Ideal.cmp .olt (Ideal.div (rb + lit 0x3F000000#32) (lit 0x43800000#32))
            (Ideal.div (mag y) (pick3 (mag y) 0x3F000000#32 0x3F800000#32 0x40000000#32)
              - Ideal.liftRound Int.floor (Ideal.div (mag y) (pick3 (mag y) 0x3F000000#32 0x3F800000#32 0x40000000#32)))).toNat : ℝ) : EReal)))
      * pick3 (mag y) 0x3F000000#32 0x3F800000#32 0x40000000#32)
    (lit 0x40C00000#32)

theorem cmp_olt (x y : EReal) : Ideal.cmp .olt x y = if x < y then 1#1 else 0#1 := by
  by_cases h : x < y <;> simp [Ideal.cmp, h]

theorem cmp_ogt (x y : EReal) : Ideal.cmp .ogt x y = if y < x then 1#1 else 0#1 := by
  by_cases h : y < x <;> simp [Ideal.cmp, h]

theorem select_if {α : Type} (p : Prop) [Decidable p] (a b : α) :
    Scalar.select (if p then 1#1 else 0#1) a b = if p then a else b := by
  by_cases h : p <;> simp [Scalar.select, h]

/-- Division by the step is multiplication by its inverse. -/
theorem div_step (x t : EReal) : Ideal.div x (pick3 t 0x3F000000#32 0x3F800000#32 0x40000000#32)
    = x * pick3 t 0x40000000#32 0x3F800000#32 0x3F000000#32 := by
  simp only [pick3, cmp_olt, select_if, lit_half, lit_one, lit_two]
  split_ifs
  · rw [Ideal.div_coe (by norm_num)]; norm_num
  · rw [Ideal.div_coe (by norm_num)]; norm_num
  · rw [Ideal.div_coe (by norm_num)]

theorem div_256 (x : EReal) : Ideal.div x (lit 0x43800000#32) = x * lit 0x3B800000#32 := by
  rw [lit_256, lit_inv256, Ideal.div_coe (by norm_num)]

theorem bit_toInt : ∀ c : BitVec 1, ((c.setWidth 32).toInt : ℤ) = (c.toNat : ℤ) := by decide +kernel

/-- The two roundings are one. -/
theorem rQ_eq (y rb : EReal) : rQ y rb = sQ y rb := by
  unfold rQ sQ
  simp only [div_step, div_256, bit_toInt, Int.cast_natCast]

/-- The eight magnitudes of the format. -/
def lev (i : Fin 8) : ℝ := (![0, 1 / 2, 1, 3 / 2, 2, 3, 4, 6] : Fin 8 → ℝ) i

theorem lev_vals : lev 0 = 0 ∧ lev 1 = 1 / 2 ∧ lev 2 = 1 ∧ lev 3 = 3 / 2 ∧ lev 4 = 2 ∧ lev 5 = 3 ∧ lev 6 = 4 ∧ lev 7 = 6 :=
  ⟨rfl, rfl, rfl, rfl, rfl, rfl, rfl, rfl⟩

theorem mag_nonneg (y : EReal) : 0 ≤ mag y := by
  unfold mag
  rcases le_total 0 y with h | h
  · exact le_max_of_le_left h
  · exact le_max_of_le_right (EReal.neg_nonneg.2 h)

/-- A number of the grid of step 1/2 up to 2, of step 1 up to 4 or of step 2, cut at 6, is one of the eight. -/
theorem lev_of (t : ℝ) (ht : 0 ≤ t) (u : ℕ) (hu : u ≤ 1) :
    ∃ i : Fin 8, min (((⌊t * (if t < 2 then 2 else if t < 4 then 1 else 1 / 2)⌋ : ℝ) + u)
      * (if t < 2 then 1 / 2 else if t < 4 then 1 else 2)) 6 = lev i := by
  split_ifs with h1 h2
  · obtain ⟨n, hn⟩ : ∃ n : ℤ, ⌊t * 2⌋ = n := ⟨_, rfl⟩
    have l : 0 ≤ n := hn ▸ Int.floor_nonneg.2 (by linarith)
    have r : n < 4 := hn ▸ Int.floor_lt.2 (by push_cast; linarith)
    rw [hn]
    interval_cases n <;> interval_cases u
    all_goals first
      | (refine ⟨0, ?_⟩; norm_num [lev_vals]; done) | (refine ⟨1, ?_⟩; norm_num [lev_vals]; done) | (refine ⟨2, ?_⟩; norm_num [lev_vals]; done)
      | (refine ⟨3, ?_⟩; norm_num [lev_vals]; done) | (refine ⟨4, ?_⟩; norm_num [lev_vals]; done)
  · obtain ⟨n, hn⟩ : ∃ n : ℤ, ⌊t * 1⌋ = n := ⟨_, rfl⟩
    have l : 2 ≤ n := hn ▸ Int.le_floor.2 (by push_cast; linarith)
    have r : n < 4 := hn ▸ Int.floor_lt.2 (by push_cast; linarith)
    rw [hn]
    interval_cases n <;> interval_cases u
    all_goals first
      | (refine ⟨4, ?_⟩; norm_num [lev_vals]; done) | (refine ⟨5, ?_⟩; norm_num [lev_vals]; done) | (refine ⟨6, ?_⟩; norm_num [lev_vals]; done)
  · obtain ⟨n, hn⟩ : ∃ n : ℤ, ⌊t * (1 / 2)⌋ = n := ⟨_, rfl⟩
    have l : 2 ≤ n := hn ▸ Int.le_floor.2 (by push_cast; linarith)
    rw [hn]
    by_cases h3 : (n : ℝ) + u ≤ 2
    · refine ⟨6, ?_⟩
      have hl : (2 : ℝ) ≤ n := by exact_mod_cast l
      have hu0 : (0 : ℝ) ≤ u := by positivity
      have : (n : ℝ) + u = 2 := by linarith
      rw [this]; norm_num [lev_vals]
    · refine ⟨7, ?_⟩
      have h4 : (3 : ℝ) ≤ (n : ℝ) + u := by
        have : (2 : ℤ) < n + u := by exact_mod_cast not_le.1 h3
        exact_mod_cast this
      rw [min_eq_right (by linarith)]
      norm_num [lev_vals]

/-- The rounded magnitude is one of the eight. -/
theorem sQ_lev (y rb : EReal) : ∃ i : Fin 8, sQ y rb = ((lev i : ℝ) : EReal) := by
  rw [← rQ_eq]
  unfold rQ
  simp only [div_step]
  generalize Ideal.cmp .olt (Ideal.div (rb + lit 0x3F000000#32) (lit 0x43800000#32)) _ = c
  have hc : c.toNat ≤ 1 := by have := c.isLt; omega
  have h0 := mag_nonneg y
  generalize mag y = t at h0
  simp only [pick3, cmp_olt, select_if, lit_half, lit_one, lit_two, lit_four, lit_six]
  induction t with
  | bot => exact absurd h0 (by simp)
  | top =>
    refine ⟨7, ?_⟩
    simp only [not_top_lt, if_false]
    rw [EReal.top_mul_coe_of_pos (by norm_num)]
    show min (((⊤ : EReal) + _) * _) _ = _
    rw [EReal.top_add_coe, EReal.top_mul_coe_of_pos (by norm_num), min_eq_right le_top]
    norm_num [lev_vals]
  | coe r =>
    obtain ⟨i, hi⟩ := lev_of r (EReal.coe_nonneg.1 h0) c.toNat hc
    refine ⟨i, ?_⟩
    rw [← hi]
    simp only [EReal.coe_lt_coe_iff]
    split_ifs <;>
    · rw [← EReal.coe_mul]
      show min ((((⌊_⌋ : ℝ) : EReal) + _) * _) _ = _
      rw [← EReal.coe_add, ← EReal.coe_mul, ← EReal.coe_strictMono.monotone.map_min]

/-! ## The codes -/

/-- Whether the rounded number is negative: `y` is, and it is not rounded to zero. -/
def sNeg (y q : EReal) : BitVec 1 := IntOp.andi (Ideal.cmp .olt y (lit 0x00000000#32)) (Ideal.cmp .ogt q (lit 0x00000000#32))

/-- The kernel's four-bit code. -/
def sCode (q : EReal) (neg : BitVec 1) : BitVec 32 :=
  IntOp.ori
    (Ideal.fptosi 32
      (Scalar.select (Ideal.cmp .olt q (lit 0x40000000#32)) (lit 0x40000000#32 * q)
        (Scalar.select (Ideal.cmp .olt q (lit 0x40800000#32)) (q + lit 0x40000000#32)
          (lit 0x3F000000#32 * q + lit 0x40800000#32))))
    (Scalar.select neg 8#32 0#32)

/-- The reference's four-bit code. -/
def rCode (q : EReal) (neg : BitVec 1) : BitVec 32 :=
  IntOp.ori
    (Ideal.fptosi 32
      (Scalar.select (Ideal.cmp .olt q (lit 0x40000000#32)) (lit 0x40000000#32 * q)
        (Scalar.select (Ideal.cmp .olt q (lit 0x40800000#32)) (q + lit 0x40000000#32)
          (Ideal.div q (lit 0x40000000#32) + lit 0x40800000#32))))
    (IntOp.shli .host (neg.setWidth 32) 3#32)

/-- The code of the `i`-th magnitude with a sign. -/
def nib (i : Fin 8) (neg : BitVec 1) : BitVec 32 := IntOp.ori (BitVec.ofNat 32 i.val) (Scalar.select neg 8#32 0#32)

theorem shl_neg : ∀ neg : BitVec 1, IntOp.shli .host (neg.setWidth 32) 3#32 = Scalar.select neg 8#32 0#32 := by decide +kernel

theorem fptosi_nat (n : ℕ) (hn : n < 2 ^ 31) : Ideal.fptosi 32 (((n : ℝ)) : EReal) = BitVec.ofNat 32 n := by
  unfold Ideal.fptosi
  rw [Ideal.toIntClamped_coe, if_pos (by positivity), Int.floor_natCast]
  have : max (-((2 ^ (32 - 1) : ℕ) : ℤ)) (min (((2 ^ (32 - 1) : ℕ) : ℤ) - 1) (n : ℤ)) = (n : ℤ) := by
    have h : ((2 ^ (32 - 1) : ℕ) : ℤ) = 2147483648 := by norm_num
    rw [h]; omega
  rw [this]
  exact BitVec.ofInt_natCast 32 n

theorem code_arg (i : Fin 8) :
    (Scalar.select (Ideal.cmp .olt ((lev i : ℝ) : EReal) (lit 0x40000000#32)) (lit 0x40000000#32 * ((lev i : ℝ) : EReal))
        (Scalar.select (Ideal.cmp .olt ((lev i : ℝ) : EReal) (lit 0x40800000#32)) (((lev i : ℝ) : EReal) + lit 0x40000000#32)
          (lit 0x3F000000#32 * ((lev i : ℝ) : EReal) + lit 0x40800000#32))) = (((i.val : ℝ)) : EReal) := by
  simp only [cmp_olt, select_if, lit_half, lit_two, lit_four, EReal.coe_lt_coe_iff, ← EReal.coe_mul, ← EReal.coe_add]
  fin_cases i <;> norm_num [lev]

/-- The kernel's code of the `i`-th magnitude. -/
theorem sCode_lev (i : Fin 8) (neg : BitVec 1) : sCode ((lev i : ℝ) : EReal) neg = nib i neg := by
  unfold sCode nib
  rw [code_arg, fptosi_nat _ (by have := i.isLt; omega)]

/-- The two codes are one. -/
theorem rCode_eq (q : EReal) (neg : BitVec 1) : rCode q neg = sCode q neg := by
  unfold rCode sCode
  have h : Ideal.div q (lit 0x40000000#32) = lit 0x3F000000#32 * q := by
    rw [lit_two, lit_half, Ideal.div_coe (by norm_num), mul_comm]
  rw [h, shl_neg]

/-- The byte of two codes, the first in the low half. -/
def pack (c0 c1 : BitVec 32) : BitVec 8 := (IntOp.ori c0 (IntOp.shli .vector c1 4#32)).setWidth 8

theorem pack_host (c0 c1 : BitVec 32) : (IntOp.ori c0 (IntOp.shli .host c1 4#32)).setWidth 8 = pack c0 c1 := rfl

/-- One half of a byte. -/
def half (b : BitVec 8) (s : BitVec 32) : BitVec 32 := IntOp.andi (IntOp.shrsi .host (b.setWidth 32) s) 15#32

theorem half_pack : ∀ (i j : Fin 8) (a b : BitVec 1),
    half (pack (nib i a) (nib j b)) 0#32 = nib i a ∧ half (pack (nib i a) (nib j b)) 4#32 = nib j b := by decide +kernel

/-! ## The values -/

/-- The kernel's value: the rounded number, scaled back up. -/
def sVal (q : EReal) (neg : BitVec 1) (e : BitVec 32) : EReal :=
  Scalar.select neg (lit 0x00000000#32 - q) q * sPow e

/-- Whether a bit of a code is set. -/
def bit (f n : BitVec 32) : BitVec 1 := IntOp.cmpi .ne (IntOp.andi f n) 0#32

/-- The reference's magnitude of a code. -/
def rMag (f : BitVec 32) : EReal :=
  Scalar.select (bit f 4#32)
    (Scalar.select (bit f 2#32) (Scalar.select (bit f 1#32) (lit 0x40C00000#32) (lit 0x40800000#32))
      (Scalar.select (bit f 1#32) (lit 0x40400000#32) (lit 0x40000000#32)))
    (Scalar.select (bit f 2#32) (Scalar.select (bit f 1#32) (lit 0x3FC00000#32) (lit 0x3F800000#32))
      (Scalar.select (bit f 1#32) (lit 0x3F000000#32) (lit 0x00000000#32)))

/-- The reference's decoding of a code. -/
def rDec (f : BitVec 32) : EReal := Scalar.select (bit f 8#32) (-rMag f) (rMag f)

theorem bits_nib : ∀ (i : Fin 8) (a : BitVec 1), bit (nib i a) 8#32 = a ∧ bit (nib i a) 4#32 = BitVec.ofBool (4 ≤ i.val)
    ∧ bit (nib i a) 2#32 = BitVec.ofBool (2 ≤ i.val % 4) ∧ bit (nib i a) 1#32 = BitVec.ofBool (i.val % 2 = 1) := by decide +kernel

/-- A code decodes to its magnitude with its sign. -/
theorem rDec_nib (i : Fin 8) (a : BitVec 1) :
    rDec (nib i a) = Scalar.select a (lit 0x00000000#32 - ((lev i : ℝ) : EReal)) ((lev i : ℝ) : EReal) := by
  obtain ⟨h8, h4, h2, h1⟩ := bits_nib i a
  have hm : rMag (nib i a) = ((lev i : ℝ) : EReal) := by
    unfold rMag
    rw [h4, h2, h1]
    fin_cases i <;> simp [Scalar.select, lev, lit_zero, lit_half, lit_one, lit_threeHalves, lit_two, lit_three, lit_four, lit_six]
  unfold rDec
  rw [hm, h8, lit_zero, zero_sub]

/-- The byte of an exponent. -/
def sScale (e : BitVec 32) : BitVec 8 := (IntOp.addi e 127#32).setWidth 8

/-- The reference's byte of an exponent, from the exponent as a number. -/
def rScale (e : EReal) : BitVec 8 := (IntOp.addi (Ideal.fptosi 32 e) 127#32).setWidth 8

theorem fptosi_toInt (e : BitVec 32) : Ideal.fptosi 32 (((e.toInt : ℝ)) : EReal) = e := by
  unfold Ideal.fptosi
  rw [Ideal.toIntClamped_coe, Int.floor_intCast, Int.ceil_intCast, ite_self]
  have h1 := BitVec.le_toInt e
  have h2 := BitVec.toInt_lt (x := e)
  have : max (-((2 ^ (32 - 1) : ℕ) : ℤ)) (min (((2 ^ (32 - 1) : ℕ) : ℤ) - 1) e.toInt) = e.toInt := by
    have h : ((2 ^ (32 - 1) : ℕ) : ℤ) = 2147483648 := by norm_num
    norm_num at h1 h2
    rw [h]; omega
  rw [this, BitVec.ofInt_toInt]

/-- The two bytes are one. -/
theorem rScale_eq {x : EReal} (hx : 0 ≤ x) : rScale (rE x) = sScale (sE x) := by
  unfold rScale sScale
  rw [rE_eq hx, fptosi_toInt]

/-- The reference's scale factor up, read off the byte. -/
def rUp (b : BitVec 8) : EReal := Ideal.pow (lit 0x40000000#32) ((((IntOp.subi (b.setWidth 32) 127#32).toInt : ℝ)) : EReal)

theorem byte_toInt : ∀ n : Fin 254, (IntOp.subi ((sScale (BitVec.ofInt 32 ((n.val : ℤ) - 126))).setWidth 32) 127#32).toInt = (n.val : ℤ) - 126 := by
  decide +kernel

/-- The scale factor up read off the byte is the power of two of the exponent. -/
theorem rUp_scale (x : EReal) : rUp (sScale (sE x)) = sPow (sE x) := by
  have h := sE_range x
  rw [sPow_eq (by omega) (by omega), ← pow_coe]
  unfold rUp
  have hb := byte_toInt ⟨((sE x).toInt + 126).toNat, by omega⟩
  have e1 : ((((sE x).toInt + 126).toNat : ℕ) : ℤ) - 126 = (sE x).toInt := by omega
  rw [e1, BitVec.ofInt_toInt] at hb
  rw [hb]

/-! ## A rounded number: its code decodes to its value -/

/-- Decoding the low half of a packed byte of two rounded numbers gives the first number's value. -/
theorem dec_lo (y0 r0 y1 r1 x : EReal) :
    rDec (half (pack (sCode (sQ y0 r0) (sNeg y0 (sQ y0 r0))) (sCode (sQ y1 r1) (sNeg y1 (sQ y1 r1)))) 0#32) * rUp (sScale (sE x))
      = sVal (sQ y0 r0) (sNeg y0 (sQ y0 r0)) (sE x) := by
  obtain ⟨i, hi⟩ := sQ_lev y0 r0
  obtain ⟨j, hj⟩ := sQ_lev y1 r1
  rw [hi, hj, sCode_lev, sCode_lev, (half_pack i j _ _).1, rDec_nib, rUp_scale]
  rfl

/-- Decoding the high half gives the second number's value. -/
theorem dec_hi (y0 r0 y1 r1 x : EReal) :
    rDec (half (pack (sCode (sQ y0 r0) (sNeg y0 (sQ y0 r0))) (sCode (sQ y1 r1) (sNeg y1 (sQ y1 r1)))) 4#32) * rUp (sScale (sE x))
      = sVal (sQ y1 r1) (sNeg y1 (sQ y1 r1)) (sE x) := by
  obtain ⟨i, hi⟩ := sQ_lev y0 r0
  obtain ⟨j, hj⟩ := sQ_lev y1 r1
  rw [hi, hj, sCode_lev, sCode_lev, (half_pack i j _ _).2, rDec_nib, rUp_scale]
  rfl

end Cert.Quant
-- ==== Proof.Column.lean ====
/- One block of sixty-four tokens read at its entries: in each column and each of its two groups of
   thirty-two tokens, the codes, the values and the scales are those of the scalar quantiser. -/
module

public import proofs.«01_k».proof.Proof.Block
public import proofs.«01_k».proof.Proof.Quant

@[expose] public section

set_option maxRecDepth 16384

noncomputable section

namespace Cert.KernelIdeal.Blk

open Idealize.ShloMosaic Idealize.SL.Sem Facts₀ Facts Cert.Quant

theorem reduce_bits (b : IVec S252x256 1) (c : Fin 256) :
    shapeCast S1x256 (multiReductionI .add [0] S256 (extui 32 b natLt_1_32) 0#32 reduces_S252x256_S256 rfl) shapeCasts_S256_S1x256 (ix2 0 c)
      = Finset.univ.fold IntOp.addi 0#32 fun k : Fin 252 => (b (ix2 k c)).setWidth 32 := by
  pointwise!

theorem fold_bits {n : ℕ} (p : Fin n → Prop) [DecidablePred p] (b : Fin n → BitVec 1) (h : ∀ k, b k = if p k then 1#1 else 0#1) :
    Finset.univ.fold IntOp.addi 0#32 (fun k => (b k).setWidth 32) = BitVec.ofNat 32 (Finset.univ.filter p).card := by
  have key : ∀ s : Finset (Fin n), s.fold IntOp.addi 0#32 (fun k => (b k).setWidth 32) = BitVec.ofNat 32 (s.filter p).card := by
    intro s
    induction s using Finset.cons_induction with
    | empty => rfl
    | cons a s ha ih =>
      rw [Finset.fold_cons, ih, Finset.filter_cons, h a]
      split_ifs with hp
      · rw [Finset.card_cons, BitVec.ofNat_add, BitVec.add_comm]; rfl
      · show (0#1).setWidth 32 + _ = _
        simp
  exact key _

theorem power_bits (k : Fin 252) :
    lit (IntOp.shli .vector (IntOp.addi (BitVec.ofNat 32 k.val) 1#32) 23#32) = two ((k.val : ℤ) - 126) := by
  have h : IntOp.addi (BitVec.ofNat 32 k.val) 1#32 = BitVec.ofNat 32 (k.val + 1) := by
    rw [BitVec.ofNat_add]; rfl
  rw [h]
  exact lit_pow ⟨k.val, by omega⟩

theorem count_card (x : EReal) :
    Quant.count x = (Finset.univ.filter fun k : Fin 252 => two ((k.val : ℤ) - 126) ≤ x).card := by
  unfold Quant.count
  rw [← Finset.card_map (Fin.valEmbedding (n := 252))]
  congr 1
  ext f
  simp only [Finset.mem_filter, Finset.mem_range, Finset.mem_map, Finset.mem_univ, true_and, Fin.valEmbedding_apply]
  constructor
  · rintro ⟨h1, h2⟩; exact ⟨⟨f, h1⟩, h2, rfl⟩
  · rintro ⟨k, h, rfl⟩; exact ⟨k.isLt, h⟩

theorem cmp_oge (x y : EReal) : Ideal.cmp .oge x y = if y ≤ x then 1#1 else 0#1 := by
  by_cases h : y ≤ x <;> simp [Ideal.cmp, h]

theorem spread (f : FVec Ideal S252x1 .f32) (k : Fin 252) (c : Fin 256) :
    broadcastTo S252x256 f broadcasts_S252x1_S252x256 (ix2 k c) = f (ix2 k 0) := by
  pointwise!

theorem word_at (k : Fin 252) :
    shli (addi (iota .tc S252x1 32 [0] iota_S252x1_d0_w32) (broadcast S252x1 1#32)) (broadcast S252x1 23#32) (ix2 k 0)
      = IntOp.shli .vector (IntOp.addi (BitVec.ofNat 32 k.val) 1#32) 23#32 := by
  pointwise!

theorem field_at (x : FVec Ideal S1x256 .f32) (c : Fin 256) : field x (ix2 0 c) = BitVec.ofNat 32 (Quant.count (x (ix2 0 c))) := by
  unfold field
  rw [reduce_bits, count_card]
  refine fold_bits _ _ fun k => ?_
  rw [← cmp_oge]
  show Ideal.cmp .oge _ _ = _
  congr 1
  · pointwise!
  · rw [spread, ← power_bits, ← word_at]
    rfl

theorem expo_at (a : FVec Ideal S1x256 .f32) (c : Fin 256) :
    expo a (ix2 0 c) = sE (a (ix2 0 c) * lit 0x3E2AAAAB#32) := by
  have key : ∀ (f : IVec S1x256 32) (n : BitVec 32), f (ix2 0 c) = n →
      select (cmpi .eq f (broadcast S1x256 0#32)) (broadcast S1x256 0#32) (subi f (broadcast S1x256 126#32)) (ix2 0 c)
        = Scalar.select (IntOp.cmpi .eq n 0#32) 0#32 (IntOp.subi n 126#32) := by
    rintro f n rfl; rfl
  unfold expo sE
  exact key _ _ (field_at _ c)

/-- The row of a block that holds token `k` of group `g`. -/
def row (g : Fin 2) (k : Fin 32) : Fin 64 := ⟨32 * (k.val % 2) + 16 * g.val + k.val / 2, by omega⟩

/-- The thirty-two tokens of group `g` in column `c` of a block, in their own order. -/
def colG (r : FVec Ideal S64x256 .f32) (c : Fin 256) (g : Fin 2) (k : Fin 32) : EReal := r (ix2 (row g k) c)

theorem colMax_at (v : FVec Ideal S16x256 .f32) (c : Fin 256) :
    colMax v (ix2 0 c) = Finset.univ.fold max (lit 0xFF800000#32) fun k : Fin 16 => mag (v (ix2 k c)) := by
  pointwise! [colMax]

theorem fold_split (f : Fin 32 → EReal) (a b : Fin 16 → EReal) (ha : ∀ s : Fin 16, a s = f ⟨2 * s.val, by omega⟩)
    (hb : ∀ s : Fin 16, b s = f ⟨2 * s.val + 1, by omega⟩) :
    max (Finset.univ.fold max (lit 0xFF800000#32) a) (Finset.univ.fold max (lit 0xFF800000#32) b) = Finset.univ.fold max (lit 0xFF800000#32) f := by
  apply le_antisymm
  · apply max_le
    · rw [Finset.fold_max_le]
      exact ⟨(Finset.le_fold_max _).2 (.inl le_rfl), fun s _ => ha s ▸ (Finset.le_fold_max _).2 (.inr ⟨_, Finset.mem_univ _, le_rfl⟩)⟩
    · rw [Finset.fold_max_le]
      exact ⟨(Finset.le_fold_max _).2 (.inl le_rfl), fun s _ => hb s ▸ (Finset.le_fold_max _).2 (.inr ⟨_, Finset.mem_univ _, le_rfl⟩)⟩
  · rw [Finset.fold_max_le]
    refine ⟨le_max_of_le_left ((Finset.le_fold_max _).2 (.inl le_rfl)), fun k _ => ?_⟩
    rcases Nat.even_or_odd' k.val with ⟨s, hs | hs⟩
    · refine le_max_of_le_left ((Finset.le_fold_max _).2 (.inr ⟨⟨s, by omega⟩, Finset.mem_univ _, ?_⟩))
      rw [ha]; exact le_of_eq (congrArg f (Fin.ext hs))
    · refine le_max_of_le_right ((Finset.le_fold_max _).2 (.inr ⟨⟨s, by omega⟩, Finset.mem_univ _, ?_⟩))
      rw [hb]; exact le_of_eq (congrArg f (Fin.ext hs))

/-- The largest magnitude of a group. -/
def gMax (v : Fin 32 → EReal) : EReal := Finset.univ.fold max (lit 0xFF800000#32) fun k => mag (v k)

theorem amax0_at (r : FVec Ideal S64x256 .f32) (c : Fin 256) : amax0 r (ix2 0 c) = gMax (colG r c 0) := by
  refine Eq.trans ?_ (fold_split _ (fun s => mag (r (ix2 ⟨s.val, by omega⟩ c))) (fun s => mag (r (ix2 ⟨32 + s.val, by omega⟩ c))) ?_ ?_)
  · show max _ _ = _
    rw [colMax_at, colMax_at]
    pointwise!
  · intro s
    simp only [colG, row]
    congr 3
    apply Fin.ext
    simp
  · intro s
    simp only [colG, row]
    congr 3
    apply Fin.ext
    simp
    omega

theorem amax1_at (r : FVec Ideal S64x256 .f32) (c : Fin 256) : amax1 r (ix2 0 c) = gMax (colG r c 1) := by
  refine Eq.trans ?_ (fold_split _ (fun s => mag (r (ix2 ⟨16 + s.val, by omega⟩ c))) (fun s => mag (r (ix2 ⟨48 + s.val, by omega⟩ c))) ?_ ?_)
  · show max _ _ = _
    rw [colMax_at, colMax_at]
    pointwise!
  · intro s
    simp only [colG, row]
    congr 3
    apply Fin.ext
    simp
  · intro s
    simp only [colG, row]
    congr 3
    apply Fin.ext
    simp
    omega

/-- The exponents of a block's two groups in column `c`. -/
theorem expoG (r : FVec Ideal S64x256 .f32) (c : Fin 256) :
    expo (amax0 r) (ix2 0 c) = sE (gMax (colG r c 0) * lit 0x3E2AAAAB#32) ∧ expo (amax1 r) (ix2 0 c) = sE (gMax (colG r c 1) * lit 0x3E2AAAAB#32) := by
  rw [expo_at, expo_at, amax0_at, amax1_at]
  exact ⟨rfl, rfl⟩

theorem rowsE_at (e0 e1 : IVec S1x256 32) (p : Fin 32) (c : Fin 256) :
    rowsE e0 e1 (ix2 p c) = if p.val < 16 then e0 (ix2 0 c) else e1 (ix2 0 c) := by
  pointwise! [rowsE]

theorem scaled_at (r : FVec Ideal S32x256 .f32) (e : IVec S32x256 32) (i : S32x256.Idx) :
    scaled r e i = r i * sPow (IntOp.subi 0#32 (e i)) := rfl
theorem quant_at (y rb : FVec Ideal S32x256 .f32) (i : S32x256.Idx) : quant y rb i = sQ (y i) (rb i) := rfl
theorem isNeg_at (y q : FVec Ideal S32x256 .f32) (i : S32x256.Idx) : isNeg y q i = sNeg (y i) (q i) := rfl
theorem codeOf_at (q : FVec Ideal S32x256 .f32) (n : IVec S32x256 1) (i : S32x256.Idx) : codeOf q n i = sCode (q i) (n i) := rfl
theorem valOf_at (q : FVec Ideal S32x256 .f32) (n : IVec S32x256 1) (e : IVec S32x256 32) (i : S32x256.Idx) :
    valOf q n e i = sVal (q i) (n i) (e i) := rfl

/-! ## The quantisation of one group of thirty-two tokens -/

/-- The exponent of a group. -/
def gE (v : Fin 32 → EReal) : BitVec 32 := sE (gMax v * lit 0x3E2AAAAB#32)
/-- The scaled tokens. -/
def gY (v : Fin 32 → EReal) (k : Fin 32) : EReal := v k * sPow (IntOp.subi 0#32 (gE v))
/-- The rounded magnitudes. -/
def gQ (v w : Fin 32 → EReal) (k : Fin 32) : EReal := sQ (gY v k) (w k)
/-- The codes. -/
def gCode (v w : Fin 32 → EReal) (k : Fin 32) : BitVec 32 := sCode (gQ v w k) (sNeg (gY v k) (gQ v w k))
/-- The values. -/
def gVal (v w : Fin 32 → EReal) (k : Fin 32) : EReal := sVal (gQ v w k) (sNeg (gY v k) (gQ v w k)) (gE v)
/-- The packed codes of neighbouring tokens. -/
def gPack (v w : Fin 32 → EReal) (s : Fin 16) : BitVec 8 := pack (gCode v w ⟨2 * s.val, by omega⟩) (gCode v w ⟨2 * s.val + 1, by omega⟩)

theorem rows_exp (r : FVec Ideal S64x256 .f32) (g : Fin 2) (s : Fin 16) (c : Fin 256) :
    rowsE (expo (amax0 r)) (expo (amax1 r)) (ix2 ⟨16 * g.val + s.val, by omega⟩ c) = gE (colG r c g) := by
  rw [rowsE_at, (expoG r c).1, (expoG r c).2]
  match g with
  | 0 => rw [if_pos (by simp)]; rfl
  | 1 => rw [if_neg (by simp)]; rfl

theorem even_row (r : FVec Ideal S64x256 .f32) (g : Fin 2) (s : Fin 16) (c : Fin 256) :
    extractStridedSlice S32x256 ![0, 0] r slices_S64x256_o0_0_S32x256 (ix2 ⟨16 * g.val + s.val, by omega⟩ c) = colG r c g ⟨2 * s.val, by omega⟩ := by
  pointwise!
  simp only [colG, row]
  congr 2
  apply Fin.ext
  simp

theorem odd_row (r : FVec Ideal S64x256 .f32) (g : Fin 2) (s : Fin 16) (c : Fin 256) :
    extractStridedSlice S32x256 ![32, 0] r slices_S64x256_o32_0_S32x256 (ix2 ⟨16 * g.val + s.val, by omega⟩ c) = colG r c g ⟨2 * s.val + 1, by omega⟩ := by
  pointwise!
  simp only [colG, row]
  congr 2
  apply Fin.ext
  simp
  omega

theorem yE_at (r : FVec Ideal S64x256 .f32) (g : Fin 2) (s : Fin 16) (c : Fin 256) :
    yE r (ix2 ⟨16 * g.val + s.val, by omega⟩ c) = gY (colG r c g) ⟨2 * s.val, by omega⟩ := by
  unfold yE gY
  rw [scaled_at, even_row, rows_exp]

theorem yO_at (r : FVec Ideal S64x256 .f32) (g : Fin 2) (s : Fin 16) (c : Fin 256) :
    yO r (ix2 ⟨16 * g.val + s.val, by omega⟩ c) = gY (colG r c g) ⟨2 * s.val + 1, by omega⟩ := by
  unfold yO gY
  rw [scaled_at, odd_row, rows_exp]

theorem qE_at (r rb : FVec Ideal S64x256 .f32) (g : Fin 2) (s : Fin 16) (c : Fin 256) :
    qE r rb (ix2 ⟨16 * g.val + s.val, by omega⟩ c) = gQ (colG r c g) (colG rb c g) ⟨2 * s.val, by omega⟩ := by
  unfold qE gQ
  rw [quant_at, yE_at, even_row]

theorem qO_at (r rb : FVec Ideal S64x256 .f32) (g : Fin 2) (s : Fin 16) (c : Fin 256) :
    qO r rb (ix2 ⟨16 * g.val + s.val, by omega⟩ c) = gQ (colG r c g) (colG rb c g) ⟨2 * s.val + 1, by omega⟩ := by
  unfold qO gQ
  rw [quant_at, yO_at, odd_row]

/-- Dropping the leading axis of a block. -/
theorem lift3 {α : Type} (v : S32x256.Idx → α) (p : Fin 32) (c : Fin 256) :
    shapeCast S1x32x256 v shapeCasts_S32x256_S1x32x256 (ix3 0 p c) = v (ix2 p c) := by
  pointwise!

/-- The codes of a block: in each group, those of its neighbouring tokens, packed. -/
theorem codes_at (r rb : FVec Ideal S64x256 .f32) (g : Fin 2) (s : Fin 16) (c : Fin 256) :
    codes r rb (ix3 0 ⟨16 * g.val + s.val, by omega⟩ c) = gPack (colG r c g) (colG rb c g) s := by
  unfold codes gPack gCode
  rw [lift3, ← qE_at, ← qO_at, ← yE_at, ← yO_at]
  rfl

/-- The even values of a block. -/
theorem valE_at (r rb : FVec Ideal S64x256 .f32) (g : Fin 2) (s : Fin 16) (c : Fin 256) :
    valE r rb (ix3 0 ⟨16 * g.val + s.val, by omega⟩ c) = gVal (colG r c g) (colG rb c g) ⟨2 * s.val, by omega⟩ := by
  unfold valE gVal
  rw [lift3, ← qE_at, ← yE_at, ← rows_exp (s := s)]
  rfl

/-- The odd values of a block. -/
theorem valO_at (r rb : FVec Ideal S64x256 .f32) (g : Fin 2) (s : Fin 16) (c : Fin 256) :
    valO r rb (ix3 0 ⟨16 * g.val + s.val, by omega⟩ c) = gVal (colG r c g) (colG rb c g) ⟨2 * s.val + 1, by omega⟩ := by
  unfold valO gVal
  rw [lift3, ← qO_at, ← yO_at, ← rows_exp (s := s)]
  rfl

/-- The scales of a block's groups. -/
theorem scaleRow_at (r : FVec Ideal S64x256 .f32) (c : Fin 256) :
    scaleRow (expo (amax0 r)) (ix2 0 c) = IntOp.addi (gE (colG r c 0)) 127#32
    ∧ scaleRow (expo (amax1 r)) (ix2 0 c) = IntOp.addi (gE (colG r c 1)) 127#32 := by
  constructor
  · show IntOp.addi (expo (amax0 r) (ix2 0 c)) _ = _
    rw [(expoG r c).1]; rfl
  · show IntOp.addi (expo (amax1 r) (ix2 0 c)) _ = _
    rw [(expoG r c).2]; rfl

end Cert.KernelIdeal.Blk
-- ==== Proof.Tile.lean ====
/- A tile of one sequence and 256 columns, made of twelve blocks of sixty-four tokens: the codes, the scales and
   the values of the tile, and where each block's lie in it. -/
module

public import proofs.«01_k».proof.Proof.Column

@[expose] public section

set_option maxRecDepth 16384

noncomputable section

namespace Cert.KernelIdeal.Blk

open Idealize.ShloMosaic Idealize.SL.Sem Facts₀ Facts Cert.Quant

/-- Block `b` of sixty-four tokens of a tile. -/
def blk {α : EltTy} (x : Vec Ideal S1x768x256 α) (b : Fin 12) : Vec Ideal S1x64x256 α :=
  fun i => x (ix3 0 ⟨64 * b.val + (i 1).val, by have := (i 1).isLt; simp at this; omega⟩ (i 2))

/-- A load of sixty-four tokens at offset `64 * b` reads block `b`. -/
theorem ld_blk {α : EltTy} (x : Vec Ideal S1x768x256 α) (b : Fin 12) {o : ℕ} (ho : o = 64 * b.val)
    (h : ∀ a, (![0, o, 0] : Fin 3 → ℕ) a + S1x64x256.size a ≤ S1x768x256.size a) :
    View.ld x (Rect.unit (s := S1x768x256) ![0, o, 0] S1x64x256.size h) = blk x b := by
  subst ho
  funext i
  unfold blk
  show x _ = x _
  congr 1
  funext a
  apply Fin.ext
  fin_cases a <;> simp

/-- A load of a whole square reads it. -/
theorem ld_sq {α : EltTy} (x : Vec Ideal S64x64 α) (h : ∀ a, (![0, 0] : Fin 2 → ℕ) a + S64x64.size a ≤ S64x64.size a) :
    View.ld x (Rect.unit (s := S64x64) ![0, 0] S64x64.size h) = x := by
  funext i
  show x _ = x _
  congr 1
  funext a
  apply Fin.ext
  fin_cases a <;> simp

/-- Group `n` of column `c` of a tile given by its blocks. -/
def grp (R : Fin 12 → FVec Ideal S64x256 .f32) (n : Fin 24) (c : Fin 256) : Fin 32 → EReal :=
  colG (R ⟨n.val / 2, by omega⟩) c ⟨n.val % 2, by omega⟩

/-- The packed codes of a tile. -/
def tCodes (R N : Fin 12 → FVec Ideal S64x256 .f32) : Vec Ideal S1x384x256 .i8 := fun y =>
  gPack (grp R ⟨(y 1).val / 16, by have := (y 1).isLt; simp at this; omega⟩ (y 2)) (grp N ⟨(y 1).val / 16, by have := (y 1).isLt; simp at this; omega⟩ (y 2)) ⟨(y 1).val % 16, by omega⟩

/-- The scales of a tile. -/
def tScales (R : Fin 12 → FVec Ideal S64x256 .f32) : Vec Ideal S1x24x256 .i8 := fun y =>
  sScale (gE (grp R (y 1) (y 2)))

/-- The values of a tile, in the order they are stored: in each block the even tokens, then the odd ones. -/
def tVals (R N : Fin 12 → FVec Ideal S64x256 .f32) : Vec Ideal S1x768x256 .bf16 := fun y =>
  gVal (grp R ⟨2 * ((y 1).val / 64) + (y 1).val % 32 / 16, by have := (y 1).isLt; simp at this; omega⟩ (y 2))
    (grp N ⟨2 * ((y 1).val / 64) + (y 1).val % 32 / 16, by have := (y 1).isLt; simp at this; omega⟩ (y 2))
    ⟨2 * ((y 1).val % 16) + (y 1).val % 64 / 32, by omega⟩

theorem tile_split (x : S1x32x256.Idx) : ∃ (g : Fin 2) (s : Fin 16) (c : Fin 256), x = ix3 0 ⟨16 * g.val + s.val, by omega⟩ c := by
  have h1 : (x 1).val < 32 := (x 1).isLt
  refine ⟨⟨(x 1).val / 16, by omega⟩, ⟨(x 1).val % 16, by omega⟩, x 2, ?_⟩
  funext a
  apply Fin.ext
  fin_cases a
  · have : (x 0).val < 1 := (x 0).isLt
    simp
  · simp; omega
  · simp

/-- One block's codes within the tile's. -/
theorem codes_tile (R N : Fin 12 → FVec Ideal S64x256 .f32) (b : Fin 12) {r n : FVec Ideal S64x256 .f32} (hr : r = R b) (hn : n = N b)
    (x : S1x32x256.Idx) (y : S1x384x256.Idx) (h1 : (y 1).val = 32 * b.val + (x 1).val) (h2 : (y 2).val = (x 2).val) :
    codes r n x = tCodes R N y := by
  obtain ⟨g, s, c, rfl⟩ := tile_split x
  subst hr hn
  rw [codes_at]
  have e1 : (y 1).val = 32 * b.val + (16 * g.val + s.val) := h1
  have e2 : y 2 = c := Fin.ext h2
  unfold tCodes grp
  rw [e2]
  congr 1 <;> first | (apply Fin.ext; show _ = (y 1).val % 16; omega) | skip
  · congr 1
    · congr 1; apply Fin.ext; show _ = (y 1).val / 16 / 2; omega
    · apply Fin.ext; show _ = (y 1).val / 16 % 2; omega
  · congr 1
    · congr 1; apply Fin.ext; show _ = (y 1).val / 16 / 2; omega
    · apply Fin.ext; show _ = (y 1).val / 16 % 2; omega

/-- One half block's values within the tile's: the even tokens. -/
theorem valE_tile (R N : Fin 12 → FVec Ideal S64x256 .f32) (b : Fin 12) {r n : FVec Ideal S64x256 .f32} (hr : r = R b) (hn : n = N b)
    (x : S1x32x256.Idx) (y : S1x768x256.Idx) (h1 : (y 1).val = 64 * b.val + (x 1).val) (h2 : (y 2).val = (x 2).val) :
    valE r n x = tVals R N y := by
  obtain ⟨g, s, c, rfl⟩ := tile_split x
  subst hr hn
  rw [valE_at]
  have e1 : (y 1).val = 64 * b.val + (16 * g.val + s.val) := h1
  have e2 : y 2 = c := Fin.ext h2
  unfold tVals grp
  rw [e2]
  congr 1 <;> first | (apply Fin.ext; show _ = 2 * ((y 1).val % 16) + (y 1).val % 64 / 32; simp only []; omega) | skip
  · congr 1
    · congr 1; apply Fin.ext; show _ = (2 * ((y 1).val / 64) + (y 1).val % 32 / 16) / 2; omega
    · apply Fin.ext; show _ = (2 * ((y 1).val / 64) + (y 1).val % 32 / 16) % 2; omega
  · congr 1
    · congr 1; apply Fin.ext; show _ = (2 * ((y 1).val / 64) + (y 1).val % 32 / 16) / 2; omega
    · apply Fin.ext; show _ = (2 * ((y 1).val / 64) + (y 1).val % 32 / 16) % 2; omega

/-- The odd tokens. -/
theorem valO_tile (R N : Fin 12 → FVec Ideal S64x256 .f32) (b : Fin 12) {r n : FVec Ideal S64x256 .f32} (hr : r = R b) (hn : n = N b)
    (x : S1x32x256.Idx) (y : S1x768x256.Idx) (h1 : (y 1).val = 64 * b.val + 32 + (x 1).val) (h2 : (y 2).val = (x 2).val) :
    valO r n x = tVals R N y := by
  obtain ⟨g, s, c, rfl⟩ := tile_split x
  subst hr hn
  rw [valO_at]
  have e1 : (y 1).val = 64 * b.val + 32 + (16 * g.val + s.val) := h1
  have e2 : y 2 = c := Fin.ext h2
  unfold tVals grp
  rw [e2]
  congr 1 <;> first | (apply Fin.ext; show _ = 2 * ((y 1).val % 16) + (y 1).val % 64 / 32; simp only []; omega) | skip
  · congr 1
    · congr 1; apply Fin.ext; show _ = (2 * ((y 1).val / 64) + (y 1).val % 32 / 16) / 2; omega
    · apply Fin.ext; show _ = (2 * ((y 1).val / 64) + (y 1).val % 32 / 16) % 2; omega
  · congr 1
    · congr 1; apply Fin.ext; show _ = (2 * ((y 1).val / 64) + (y 1).val % 32 / 16) / 2; omega
    · apply Fin.ext; show _ = (2 * ((y 1).val / 64) + (y 1).val % 32 / 16) % 2; omega

/-- The blocks of a tile of rotated activations. -/
def RX (x0 x1 : Vec Ideal S1x768x256 .bf16) (m : Vec Ideal S64x64 .f32) (b : Fin 12) : FVec Ideal S64x256 .f32 := rotX (blk x0 b) (blk x1 b) m
/-- The blocks of a tile of rotated gradients. -/
def RY (x0 : Vec Ideal S1x768x256 .bf16) (m : Vec Ideal S64x64 .f32) (b : Fin 12) : FVec Ideal S64x256 .f32 := rotY (blk x0 b) m
/-- The blocks of a tile of random numbers, reordered as the rotated tokens are. -/
def RN (x4 : Vec Ideal S1x768x256 .i8) (p : Vec Ideal S64x64 .bf16) (b : Fin 12) : FVec Ideal S64x256 .f32 := rnd (blk x4 b) p

/-- The activation's block as loaded. -/
theorem ldX (x0 x1 : Vec Ideal S1x768x256 .bf16) (m : Vec Ideal S64x64 .f32) (b : Fin 12) {o : ℕ} (ho : o = 64 * b.val)
    (h : ∀ a, (![0, o, 0] : Fin 3 → ℕ) a + S1x64x256.size a ≤ S1x768x256.size a) :
    rotX (View.ld x0 (Rect.unit (s := S1x768x256) ![0, o, 0] S1x64x256.size h)) (View.ld x1 (Rect.unit (s := S1x768x256) ![0, o, 0] S1x64x256.size h))
      (View.ld m Gen.r0_1) = RX x0 x1 m b := by
  rw [ld_blk x0 b ho, ld_blk x1 b ho, ld_sq]; rfl

/-- The random numbers' block as loaded. -/
theorem ldN (x4 : Vec Ideal S1x768x256 .i8) (p : Vec Ideal S64x64 .bf16) (b : Fin 12) {o : ℕ} (ho : o = 64 * b.val)
    (h : ∀ a, (![0, o, 0] : Fin 3 → ℕ) a + S1x64x256.size a ≤ S1x768x256.size a) :
    rnd (View.ld x4 (Rect.unit (s := S1x768x256) ![0, o, 0] S1x64x256.size h)) (View.ld p Gen.r0_1) = RN x4 p b := by
  rw [ld_blk x4 b ho, ld_sq]; rfl

/-- One row of scales within the tile's: the first group of a block. -/
theorem scale0_tile (R : Fin 12 → FVec Ideal S64x256 .f32) (b : Fin 12) {r : FVec Ideal S64x256 .f32} (hr : r = R b)
    (i : S1x256.Idx) (n : Fin 24) (c : Fin 256) (hn : n.val = 2 * b.val) (hc : (i 1).val = c.val) :
    scaleRow (expo (amax0 r)) i = IntOp.addi (gE (grp R n c)) 127#32 := by
  have hi : i = ix2 0 c := by
    funext a
    apply Fin.ext
    fin_cases a
    · have : (i 0).val < 1 := (i 0).isLt
      simp
    · simpa using hc
  subst hr hi
  rw [(scaleRow_at _ _).1]
  unfold grp
  congr 3
  · congr 1; apply Fin.ext; show b.val = n.val / 2; omega
  · apply Fin.ext; show 0 = n.val % 2; omega

/-- The second group. -/
theorem scale1_tile (R : Fin 12 → FVec Ideal S64x256 .f32) (b : Fin 12) {r : FVec Ideal S64x256 .f32} (hr : r = R b)
    (i : S1x256.Idx) (n : Fin 24) (c : Fin 256) (hn : n.val = 2 * b.val + 1) (hc : (i 1).val = c.val) :
    scaleRow (expo (amax1 r)) i = IntOp.addi (gE (grp R n c)) 127#32 := by
  have hi : i = ix2 0 c := by
    funext a
    apply Fin.ext
    fin_cases a
    · have : (i 0).val < 1 := (i 0).isLt
      simp
    · simpa using hc
  subst hr hi
  rw [(scaleRow_at _ _).2]
  unfold grp
  congr 3
  · congr 1; apply Fin.ext; show b.val = n.val / 2; omega
  · apply Fin.ext; show 1 = n.val % 2; omega

/-- The stored scales, entry by entry. -/
theorem bytes_at (x : S1x24x256.Idx) : ∃ j : S24x256.Idx, (j 0).val = (x 1).val ∧ (j 1).val = (x 2).val ∧
    ∀ v : IVec S24x256 32, shapeCast S1x24x256 (trunci 8 v natLt_8_32) shapeCasts_S24x256_S1x24x256 x = (v j).setWidth 8 := by
  refine ⟨ix2 (x 1) (x 2), rfl, rfl, fun v => ?_⟩
  idx_vars x
  pointwise!

/-- The gradient's block as loaded. -/
theorem ldY (x0 : Vec Ideal S1x768x256 .bf16) (m : Vec Ideal S64x64 .f32) (b : Fin 12) {o : ℕ} (ho : o = 64 * b.val)
    (h : ∀ a, (![0, o, 0] : Fin 3 → ℕ) a + S1x64x256.size a ≤ S1x768x256.size a) :
    rotY (View.ld x0 (Rect.unit (s := S1x768x256) ![0, o, 0] S1x64x256.size h)) (View.ld m Gen.r0_1) = RY x0 m b := by
  rw [ld_blk x0 b ho, ld_sq]; rfl

end Cert.KernelIdeal.Blk
-- ==== Proof.Rot.lean ====
module

public import proofs.«01_k».proof.Proof.Tile

@[expose] public section

/-! The rotated values and the random numbers of one tile, as sums over the 64 tokens of a block. -/

set_option maxRecDepth 16384

noncomputable section

namespace Cert.KernelIdeal.Blk

open Idealize.ShloMosaic Idealize.SL.Sem Facts₀ Facts Cert.Quant

/-- The gated activation of one pair of inputs: `g · σ(g) · u`. -/
def act (g u : EReal) : EReal := g * Ideal.logistic g * u

/-- Group `n` of a column `v` of 768 tokens after each block of 64 is multiplied by the matrix `M`, whose rows
    stand in the order the kernel keeps the tokens in. -/
def gR (M : Fin 64 → Fin 64 → EReal) (v : Fin 768 → EReal) (n : Fin 24) : Fin 32 → EReal := fun k =>
  ∑ j : Fin 64, M (row ⟨n.val % 2, by omega⟩ k) j * v ⟨64 * (n.val / 2) + j.val, by omega⟩

theorem rotX_at (A B : Vec Ideal S1x64x256 .bf16) (m : Vec Ideal S64x64 .f32) (ρ : Fin 64) (c : Fin 256) :
    rotX A B m (ix2 ρ c) = ∑ j : Fin 64, m (ix2 ρ j) * act (A (ix3 0 j c)) (B (ix3 0 j c)) := by
  pointwise! [rotX, Gen.k0_pay6]

theorem rotY_at (A : Vec Ideal S1x64x256 .bf16) (m : Vec Ideal S64x64 .f32) (ρ : Fin 64) (c : Fin 256) :
    rotY A m (ix2 ρ c) = ∑ j : Fin 64, m (ix2 ρ j) * A (ix3 0 j c) := by
  pointwise! [rotY]

/-- An unsigned byte as a number. -/
def num (r : BitVec 8) : EReal := (((r.setWidth 32).toInt : ℝ) : EReal)

theorem rnd_at (C : Vec Ideal S1x64x256 .i8) (p : Vec Ideal S64x64 .bf16) (ρ : Fin 64) (c : Fin 256) :
    rnd C p (ix2 ρ c) = ∑ j : Fin 64, p (ix2 ρ j) * num (C (ix3 0 j c)) := by
  pointwise! [rnd, Gen.k0_pay7]

theorem grpX (x0 x1 : Vec Ideal S1x768x256 .bf16) (m : Vec Ideal S64x64 .f32) (n : Fin 24) (c : Fin 256) :
    grp (RX x0 x1 m) n c = gR (fun a b => m (ix2 a b)) (fun t => act (x0 (ix3 0 t c)) (x1 (ix3 0 t c))) n :=
  funext fun k => rotX_at _ _ m (row ⟨n.val % 2, by omega⟩ k) c

theorem grpY (x0 : Vec Ideal S1x768x256 .bf16) (m : Vec Ideal S64x64 .f32) (n : Fin 24) (c : Fin 256) :
    grp (RY x0 m) n c = gR (fun a b => m (ix2 a b)) (fun t => x0 (ix3 0 t c)) n :=
  funext fun k => rotY_at _ m (row ⟨n.val % 2, by omega⟩ k) c

theorem grpN (x4 : Vec Ideal S1x768x256 .i8) (p : Vec Ideal S64x64 .bf16) (n : Fin 24) (c : Fin 256) :
    grp (RN x4 p) n c = gR (fun a b => p (ix2 a b)) (fun t => num (x4 (ix3 0 t c))) n :=
  funext fun k => rnd_at _ p (row ⟨n.val % 2, by omega⟩ k) c

end Cert.KernelIdeal.Blk
-- ==== Proof.Global.lean ====
module

public import proofs.«01_k».proof.Proof.Rot

@[expose] public section

/-! The three arrays a quantized operand is kept as, at a batch entry, a row and a column: `G b c n` is group `n`
    of column `c` (its 32 rotated values in token order) and `N b c n` the random numbers of that group. -/

set_option maxRecDepth 16384

noncomputable section

namespace Cert.KernelIdeal.Blk

open Idealize.ShloMosaic Idealize.SL.Sem Facts₀ Facts Cert.Quant

/-- The groups of every column of every batch entry. -/
abbrev Groups (C : ℕ) : Type := Fin 2 → Fin C → Fin 24 → Fin 32 → EReal

/-- The packed codes. -/
def kCodes {C : ℕ} (G N : Groups C) (b : Fin 2) (p : Fin 384) (c : Fin C) : BitVec 8 :=
  gPack (G b c ⟨p.val / 16, by omega⟩) (N b c ⟨p.val / 16, by omega⟩) ⟨p.val % 16, by omega⟩

/-- The biased exponents of the scales. -/
def kScales {C : ℕ} (G : Groups C) (b : Fin 2) (n : Fin 24) (c : Fin C) : BitVec 8 := sScale (gE (G b c n))

/-- The values, in the order they are stored: in each block of 64 tokens the even ones, then the odd ones. -/
def kVals {C : ℕ} (G N : Groups C) (b : Fin 2) (p : Fin 768) (c : Fin C) : EReal :=
  gVal (G b c ⟨2 * (p.val / 64) + p.val % 32 / 16, by omega⟩) (N b c ⟨2 * (p.val / 64) + p.val % 32 / 16, by omega⟩)
    ⟨2 * (p.val % 16) + p.val % 64 / 32, by omega⟩

/-- The rotated groups of the gated activation. -/
def gAct (M : Fin 64 → Fin 64 → EReal) {C : ℕ} (A B : Fin 2 → Fin 768 → Fin C → EReal) : Groups C :=
  fun b c n => gR M (fun t => act (A b t c) (B b t c)) n

/-- The rotated groups of one operand. -/
def gOne (M : Fin 64 → Fin 64 → EReal) {C : ℕ} (A : Fin 2 → Fin 768 → Fin C → EReal) : Groups C :=
  fun b c n => gR M (fun t => A b t c) n

/-- The groups of random numbers. -/
def gNum (P : Fin 64 → Fin 64 → EReal) {C : ℕ} (A : Fin 2 → Fin 768 → Fin C → BitVec 8) : Groups C :=
  fun b c n => gR P (fun t => num (A b t c)) n

theorem tCodes_at {C : ℕ} {G N : Groups C} {R N' : Fin 12 → FVec Ideal S64x256 .f32} {b : Fin 2} {f : Fin 256 → Fin C}
    (hG : ∀ n l, grp R n l = G b (f l) n) (hN : ∀ n l, grp N' n l = N b (f l) n) (p : Fin 384) (l : Fin 256) :
    tCodes R N' (ix3 0 p l) = kCodes G N b p (f l) := by
  show gPack (grp R ⟨p.val / 16, _⟩ l) (grp N' ⟨p.val / 16, _⟩ l) _ = _
  rw [hG, hN]
  rfl

theorem tScales_at {C : ℕ} {G : Groups C} {R : Fin 12 → FVec Ideal S64x256 .f32} {b : Fin 2} {f : Fin 256 → Fin C}
    (hG : ∀ n l, grp R n l = G b (f l) n) (n : Fin 24) (l : Fin 256) :
    tScales R (ix3 0 n l) = kScales G b n (f l) := by
  show sScale (gE (grp R n l)) = _
  rw [hG]
  rfl

theorem tVals_at {C : ℕ} {G N : Groups C} {R N' : Fin 12 → FVec Ideal S64x256 .f32} {b : Fin 2} {f : Fin 256 → Fin C}
    (hG : ∀ n l, grp R n l = G b (f l) n) (hN : ∀ n l, grp N' n l = N b (f l) n) (p : Fin 768) (l : Fin 256) :
    tVals R N' (ix3 0 p l) = kVals G N b p (f l) := by
  show gVal (grp R ⟨2 * (p.val / 64) + p.val % 32 / 16, _⟩ l) (grp N' ⟨2 * (p.val / 64) + p.val % 32 / 16, _⟩ l) _ = _
  rw [hG, hN]
  rfl

end Cert.KernelIdeal.Blk
-- ==== Proof.Host.lean ====
module

public import Idealize.ShloMosaic.Lib.Routing.Ops
public import proofs.«01_k».proof.Proof.Global
public import proofs.«01_k».proof.Proof.Gen.KernelIdeal.Frame

@[expose] public section

/-! What the operations before the first region leave: the rotation with its rows in the order the kernel keeps
    the tokens in, and the matrix of zeros and ones of that order. -/

set_option maxRecDepth 16384

noncomputable section

namespace Cert.KernelIdeal.Blk

open Idealize.ShloMosaic Idealize.ShloMosaic.TcCoe Idealize.SL.Sem Facts₀ Facts Cert.Quant Gen

/-- The order the tokens of a block are kept in: the even ones, then the odd ones. -/
def ord (a : Fin 64) : Fin 64 := ⟨if a.val < 32 then 2 * a.val else 2 * (a.val - 32) + 1, by split <;> omega⟩

/-- Token `k` of group `g` is token `32 g + k` of its block. -/
theorem ord_row (g : Fin 2) (k : Fin 32) : ord (row g k) = ⟨32 * g.val + k.val, by omega⟩ := by
  apply Fin.ext
  unfold ord row
  dsimp only
  split <;> omega

/-- The signed Hadamard matrix. -/
def rot (s : FVec Ideal S64 .f32) : FVec Ideal S64x64 .f32 :=
  mulf
    (mulf
      (sitofp FTy.f32
        (subi (broadcastInDim S64x64 ![] Gen.bcast_S_S64x64 (constantI S_ 32 1#32))
          (muli (broadcastInDim S64x64 ![] Gen.bcast_S_S64x64 (constantI S_ 32 2#32))
            (andi
              (ctpop
                (andi
                  (broadcastInDim S64x64 ![0, 1] Gen.bcast_S64x1_S64x64_0_1
                    (broadcastInDim S64x1 ![0] Gen.bcast_S64_S64x1_0 (iotaInDim S64 32 0)))
                  (broadcastInDim S64x64 ![0, 1] Gen.bcast_S1x64_S64x64_0_1
                    (broadcastInDim S1x64 ![1] Gen.bcast_S64_S1x64_1 (iotaInDim S64 32 0)))))
              (broadcastInDim S64x64 ![] Gen.bcast_S_S64x64 (constantI S_ 32 1#32))))))
      (broadcastInDim S64x64 ![0, 1] Gen.bcast_S1x64_S64x64_0_1
        (broadcastInDim S1x64 ![1] Gen.bcast_S64_S1x64_1 s)))
    (broadcastInDim S64x64 ![] Gen.bcast_S_S64x64 (constant S_ FTy.f32 1040187392#32))

/-- The order as the program computes it. -/
def ordV : IVec S64 32 :=
  concatenate S64 0
    [⟨S32, Host.slice S32 ![0] ![2] (iotaInDim S64 32 0) Gen.slicesBy_S64_S32_0s2⟩,
      ⟨S32, Host.slice S32 ![1] ![2] (iotaInDim S64 32 0) Gen.slicesBy_S64_S32_1s2⟩]
    Gen.concatenates_S32_S32_S64_d0

theorem ordV_at (a : Fin 64) : ordV (ix1 a) = BitVec.ofNat 32 (ord a).val := by
  revert a
  decide +kernel

variable (m : (ℓ : Loc nD τ sig) → Buf (Elt Ideal) ℓ) (ρ : Dev nD → PrngReg) (c : Dev nD)

theorem v28_eq : (W1 m ρ c (Proc.devRef .tc main_v28) : Vec Ideal S64x64 .f32)
    = Host.gather gather_S64x64_S64x1_S64x64_1_0_n_n_0_1_164 (rot (W0 m ρ c (Proc.devRef .tc main_arg3)))
      (broadcastInDim S64x1 ![0] Gen.bcast_S64_S64x1_0
        (select (cmpi CmpIPredicate.slt ordV (broadcastInDim S64 ![] Gen.bcast_S_S64 (constantI S_ 32 0#32)))
          (addi ordV (broadcastInDim S64 ![] Gen.bcast_S_S64 (constantI S_ 32 64#32))) ordV)) := by
  unfold W1 hostOps0 rot ordV
  after_results

theorem v34_eq : (W1 m ρ c (Proc.devRef .tc main_v34) : Vec Ideal S64x64 .bf16)
    = show FVec Ideal S64x64 .bf16 from uitofp FTy.bf16
      (cmpi CmpIPredicate.eq
        (broadcastInDim S64x64 ![0, 1] Gen.bcast_S64x1_S64x64_0_1 (broadcastInDim S64x1 ![0] Gen.bcast_S64_S64x1_0 ordV))
        (broadcastInDim S64x64 ![0, 1] Gen.bcast_S1x64_S64x64_0_1
          (broadcastInDim S1x64 ![1] Gen.bcast_S64_S1x64_1 (iotaInDim S64 32 0)))) := by
  unfold W1 hostOps0 ordV
  after_results

theorem v28_at (a b : Fin 64) : (W1 m ρ c (Proc.devRef .tc main_v28) : Vec Ideal S64x64 .f32) (ix2 a b)
    = rot (m ((c : Thread nD τ).loc main_arg3)) (ix2 (ord a) b) := by
  rw [v28_eq]
  refine Routing.gather_row _ rfl rfl rfl rfl rfl _ _ a b (ord a) ?_ (by norm_num)
  have h : ordV (ix1 a) = BitVec.ofNat 32 (ord a).val := ordV_at a
  have hs : IntOp.cmpi .slt (BitVec.ofNat 32 (ord a).val) 0#32 = 0#1 := by
    revert a
    decide +kernel
  pointwise
  rw [h, hs]
  rfl

theorem v34_at (a b : Fin 64) : (W1 m ρ c (Proc.devRef .tc main_v34) : Vec Ideal S64x64 .bf16) (ix2 a b)
    = if ord a = b then (1 : EReal) else 0 := by
  rw [v34_eq]
  have h : ordV (ix1 a) = BitVec.ofNat 32 (ord a).val := ordV_at a
  pointwise
  rw [h]
  by_cases e : ord a = b
  · subst e
    rw [if_pos rfl, show IntOp.cmpi CmpIPredicate.eq (BitVec.ofNat 32 (ord a).val) (BitVec.ofNat 32 (ord a).val) = 1#1 by simp [IntOp.cmpi]]
    show (((1#1 : BitVec 1).toNat : ℝ) : EReal) = 1
    norm_num
  · have hne : BitVec.ofNat 32 (ord a).val ≠ BitVec.ofNat 32 b.val := fun q => e (by
      have := congrArg BitVec.toNat q
      simp only [BitVec.toNat_ofNat] at this
      apply Fin.ext
      omega)
    rw [if_neg e, show IntOp.cmpi CmpIPredicate.eq (BitVec.ofNat 32 (ord a).val) (BitVec.ofNat 32 b.val) = 0#1 by simp [IntOp.cmpi, beq_eq_false_iff_ne.mpr hne]]
    show (((0#1 : BitVec 1).toNat : ℝ) : EReal) = 0
    norm_num

/-- A sum against the row of zeros and ones of the order picks one term. -/
theorem sum_perm (a : Fin 64) (f : Fin 64 → EReal) : ∑ j : Fin 64, (if ord a = j then (1 : EReal) else 0) * f j = f (ord a) := by
  rw [Finset.sum_eq_single (ord a)]
  · rw [if_pos rfl, one_mul]
  · intro j _ hj
    rw [if_neg (Ne.symm hj), zero_mul]
  · intro h
    exact absurd (Finset.mem_univ _) h

end Cert.KernelIdeal.Blk
-- ==== Proof.Pieces0.lean ====
/- The activation's tile: each of the buffers the body fills by stores holds the tile's codes, scales or values. -/
module

public import proofs.«01_k».proof.Proof.Tile

@[expose] public section

set_option maxRecDepth 16384

noncomputable section

namespace Cert.KernelIdeal.Blk

open Idealize.ShloMosaic Idealize.SL.Sem Facts₀ Facts Cert.Quant

/-- The codes the body stores for a tile of the activation. -/
theorem out0_5_eq (x0 x1 : Vec Ideal S1x768x256 .bf16) (x2 : Vec Ideal S64x64 .f32) (x3 : Vec Ideal S64x64 .bf16) (x4 : Vec Ideal S1x768x256 .i8) :
    Gen.out0_5 x0 x1 x2 x3 x4 = tCodes (RX x0 x1 x2) (RN x4 x3) := by
  funext y
  canon_tiles x h
  · have t := codes_tile (RX x0 x1 x2) (RN x4 x3) 11 (ldX x0 x1 x2 11 rfl inb_S1x768x256_S1x64x256_0_704_0) (ldN x4 x3 11 rfl inb_S1x768x256_S1x64x256_0_704_0) x y (by omega) (by omega)
    exact t
  · have t := codes_tile (RX x0 x1 x2) (RN x4 x3) 10 (ldX x0 x1 x2 10 rfl inb_S1x768x256_S1x64x256_0_640_0) (ldN x4 x3 10 rfl inb_S1x768x256_S1x64x256_0_640_0) x y (by omega) (by omega)
    exact t
  · have t := codes_tile (RX x0 x1 x2) (RN x4 x3) 9 (ldX x0 x1 x2 9 rfl inb_S1x768x256_S1x64x256_0_576_0) (ldN x4 x3 9 rfl inb_S1x768x256_S1x64x256_0_576_0) x y (by omega) (by omega)
    exact t
  · have t := codes_tile (RX x0 x1 x2) (RN x4 x3) 8 (ldX x0 x1 x2 8 rfl inb_S1x768x256_S1x64x256_0_512_0) (ldN x4 x3 8 rfl inb_S1x768x256_S1x64x256_0_512_0) x y (by omega) (by omega)
    exact t
  · have t := codes_tile (RX x0 x1 x2) (RN x4 x3) 7 (ldX x0 x1 x2 7 rfl inb_S1x768x256_S1x64x256_0_448_0) (ldN x4 x3 7 rfl inb_S1x768x256_S1x64x256_0_448_0) x y (by omega) (by omega)
    exact t
  · have t := codes_tile (RX x0 x1 x2) (RN x4 x3) 6 (ldX x0 x1 x2 6 rfl inb_S1x768x256_S1x64x256_0_384_0) (ldN x4 x3 6 rfl inb_S1x768x256_S1x64x256_0_384_0) x y (by omega) (by omega)
    exact t
  · have t := codes_tile (RX x0 x1 x2) (RN x4 x3) 5 (ldX x0 x1 x2 5 rfl inb_S1x768x256_S1x64x256_0_320_0) (ldN x4 x3 5 rfl inb_S1x768x256_S1x64x256_0_320_0) x y (by omega) (by omega)
    exact t
  · have t := codes_tile (RX x0 x1 x2) (RN x4 x3) 4 (ldX x0 x1 x2 4 rfl inb_S1x768x256_S1x64x256_0_256_0) (ldN x4 x3 4 rfl inb_S1x768x256_S1x64x256_0_256_0) x y (by omega) (by omega)
    exact t
  · have t := codes_tile (RX x0 x1 x2) (RN x4 x3) 3 (ldX x0 x1 x2 3 rfl inb_S1x768x256_S1x64x256_0_192_0) (ldN x4 x3 3 rfl inb_S1x768x256_S1x64x256_0_192_0) x y (by omega) (by omega)
    exact t
  · have t := codes_tile (RX x0 x1 x2) (RN x4 x3) 2 (ldX x0 x1 x2 2 rfl inb_S1x768x256_S1x64x256_0_128_0) (ldN x4 x3 2 rfl inb_S1x768x256_S1x64x256_0_128_0) x y (by omega) (by omega)
    exact t
  · have t := codes_tile (RX x0 x1 x2) (RN x4 x3) 1 (ldX x0 x1 x2 1 rfl inb_S1x768x256_S1x64x256_0_64_0) (ldN x4 x3 1 rfl inb_S1x768x256_S1x64x256_0_64_0) x y (by omega) (by omega)
    exact t
  · have t := codes_tile (RX x0 x1 x2) (RN x4 x3) 0 (ldX x0 x1 x2 0 rfl inb_S1x768x256_S1x64x256_0_0_0) (ldN x4 x3 0 rfl inb_S1x768x256_S1x64x256_0_0_0) x y (by omega) (by omega)
    exact t

/-- The scales the body stores for a tile of the activation. -/
theorem out0_6_eq (x0 x1 : Vec Ideal S1x768x256 .bf16) (x2 : Vec Ideal S64x64 .f32) (x3 : Vec Ideal S64x64 .bf16) (x4 : Vec Ideal S1x768x256 .i8) :
    Gen.out0_6 x0 x1 x2 x3 x4 = tScales (RX x0 x1 x2) := by
  funext y
  canon_tiles x k
  obtain ⟨j, q0, q1, hj⟩ := bytes_at x
  refine (hj _).trans ?_
  unfold tScales sScale
  congr 1
  concat_tiles i h
  · have t := scale0_tile (RX x0 x1 x2) 0 (ldX x0 x1 x2 0 rfl inb_S1x768x256_S1x64x256_0_0_0) i (y 1) (y 2) (by omega) (by omega)
    exact t
  · have t := scale1_tile (RX x0 x1 x2) 0 (ldX x0 x1 x2 0 rfl inb_S1x768x256_S1x64x256_0_0_0) i (y 1) (y 2) (by omega) (by omega)
    exact t
  · have t := scale0_tile (RX x0 x1 x2) 1 (ldX x0 x1 x2 1 rfl inb_S1x768x256_S1x64x256_0_64_0) i (y 1) (y 2) (by omega) (by omega)
    exact t
  · have t := scale1_tile (RX x0 x1 x2) 1 (ldX x0 x1 x2 1 rfl inb_S1x768x256_S1x64x256_0_64_0) i (y 1) (y 2) (by omega) (by omega)
    exact t
  · have t := scale0_tile (RX x0 x1 x2) 2 (ldX x0 x1 x2 2 rfl inb_S1x768x256_S1x64x256_0_128_0) i (y 1) (y 2) (by omega) (by omega)
    exact t
  · have t := scale1_tile (RX x0 x1 x2) 2 (ldX x0 x1 x2 2 rfl inb_S1x768x256_S1x64x256_0_128_0) i (y 1) (y 2) (by omega) (by omega)
    exact t
  · have t := scale0_tile (RX x0 x1 x2) 3 (ldX x0 x1 x2 3 rfl inb_S1x768x256_S1x64x256_0_192_0) i (y 1) (y 2) (by omega) (by omega)
    exact t
  · have t := scale1_tile (RX x0 x1 x2) 3 (ldX x0 x1 x2 3 rfl inb_S1x768x256_S1x64x256_0_192_0) i (y 1) (y 2) (by omega) (by omega)
    exact t
  · have t := scale0_tile (RX x0 x1 x2) 4 (ldX x0 x1 x2 4 rfl inb_S1x768x256_S1x64x256_0_256_0) i (y 1) (y 2) (by omega) (by omega)
    exact t
  · have t := scale1_tile (RX x0 x1 x2) 4 (ldX x0 x1 x2 4 rfl inb_S1x768x256_S1x64x256_0_256_0) i (y 1) (y 2) (by omega) (by omega)
    exact t
  · have t := scale0_tile (RX x0 x1 x2) 5 (ldX x0 x1 x2 5 rfl inb_S1x768x256_S1x64x256_0_320_0) i (y 1) (y 2) (by omega) (by omega)
    exact t
  · have t := scale1_tile (RX x0 x1 x2) 5 (ldX x0 x1 x2 5 rfl inb_S1x768x256_S1x64x256_0_320_0) i (y 1) (y 2) (by omega) (by omega)
    exact t
  · have t := scale0_tile (RX x0 x1 x2) 6 (ldX x0 x1 x2 6 rfl inb_S1x768x256_S1x64x256_0_384_0) i (y 1) (y 2) (by omega) (by omega)
    exact t
  · have t := scale1_tile (RX x0 x1 x2) 6 (ldX x0 x1 x2 6 rfl inb_S1x768x256_S1x64x256_0_384_0) i (y 1) (y 2) (by omega) (by omega)
    exact t
  · have t := scale0_tile (RX x0 x1 x2) 7 (ldX x0 x1 x2 7 rfl inb_S1x768x256_S1x64x256_0_448_0) i (y 1) (y 2) (by omega) (by omega)
    exact t
  · have t := scale1_tile (RX x0 x1 x2) 7 (ldX x0 x1 x2 7 rfl inb_S1x768x256_S1x64x256_0_448_0) i (y 1) (y 2) (by omega) (by omega)
    exact t
  · have t := scale0_tile (RX x0 x1 x2) 8 (ldX x0 x1 x2 8 rfl inb_S1x768x256_S1x64x256_0_512_0) i (y 1) (y 2) (by omega) (by omega)
    exact t
  · have t := scale1_tile (RX x0 x1 x2) 8 (ldX x0 x1 x2 8 rfl inb_S1x768x256_S1x64x256_0_512_0) i (y 1) (y 2) (by omega) (by omega)
    exact t
  · have t := scale0_tile (RX x0 x1 x2) 9 (ldX x0 x1 x2 9 rfl inb_S1x768x256_S1x64x256_0_576_0) i (y 1) (y 2) (by omega) (by omega)
    exact t
  · have t := scale1_tile (RX x0 x1 x2) 9 (ldX x0 x1 x2 9 rfl inb_S1x768x256_S1x64x256_0_576_0) i (y 1) (y 2) (by omega) (by omega)
    exact t
  · have t := scale0_tile (RX x0 x1 x2) 10 (ldX x0 x1 x2 10 rfl inb_S1x768x256_S1x64x256_0_640_0) i (y 1) (y 2) (by omega) (by omega)
    exact t
  · have t := scale1_tile (RX x0 x1 x2) 10 (ldX x0 x1 x2 10 rfl inb_S1x768x256_S1x64x256_0_640_0) i (y 1) (y 2) (by omega) (by omega)
    exact t
  · have t := scale0_tile (RX x0 x1 x2) 11 (ldX x0 x1 x2 11 rfl inb_S1x768x256_S1x64x256_0_704_0) i (y 1) (y 2) (by omega) (by omega)
    exact t
  · have t := scale1_tile (RX x0 x1 x2) 11 (ldX x0 x1 x2 11 rfl inb_S1x768x256_S1x64x256_0_704_0) i (y 1) (y 2) (by omega) (by omega)
    exact t

/-- The values the body stores for a tile of the activation. -/
theorem out0_7_eq (x0 x1 : Vec Ideal S1x768x256 .bf16) (x2 : Vec Ideal S64x64 .f32) (x3 : Vec Ideal S64x64 .bf16) (x4 : Vec Ideal S1x768x256 .i8) :
    Gen.out0_7 x0 x1 x2 x3 x4 = tVals (RX x0 x1 x2) (RN x4 x3) := by
  funext y
  canon_tiles x h
  · have t := valO_tile (RX x0 x1 x2) (RN x4 x3) 11 (ldX x0 x1 x2 11 rfl inb_S1x768x256_S1x64x256_0_704_0) (ldN x4 x3 11 rfl inb_S1x768x256_S1x64x256_0_704_0) x y (by omega) (by omega)
    exact t
  · have t := valE_tile (RX x0 x1 x2) (RN x4 x3) 11 (ldX x0 x1 x2 11 rfl inb_S1x768x256_S1x64x256_0_704_0) (ldN x4 x3 11 rfl inb_S1x768x256_S1x64x256_0_704_0) x y (by omega) (by omega)
    exact t
  · have t := valO_tile (RX x0 x1 x2) (RN x4 x3) 10 (ldX x0 x1 x2 10 rfl inb_S1x768x256_S1x64x256_0_640_0) (ldN x4 x3 10 rfl inb_S1x768x256_S1x64x256_0_640_0) x y (by omega) (by omega)
    exact t
  · have t := valE_tile (RX x0 x1 x2) (RN x4 x3) 10 (ldX x0 x1 x2 10 rfl inb_S1x768x256_S1x64x256_0_640_0) (ldN x4 x3 10 rfl inb_S1x768x256_S1x64x256_0_640_0) x y (by omega) (by omega)
    exact t
  · have t := valO_tile (RX x0 x1 x2) (RN x4 x3) 9 (ldX x0 x1 x2 9 rfl inb_S1x768x256_S1x64x256_0_576_0) (ldN x4 x3 9 rfl inb_S1x768x256_S1x64x256_0_576_0) x y (by omega) (by omega)
    exact t
  · have t := valE_tile (RX x0 x1 x2) (RN x4 x3) 9 (ldX x0 x1 x2 9 rfl inb_S1x768x256_S1x64x256_0_576_0) (ldN x4 x3 9 rfl inb_S1x768x256_S1x64x256_0_576_0) x y (by omega) (by omega)
    exact t
  · have t := valO_tile (RX x0 x1 x2) (RN x4 x3) 8 (ldX x0 x1 x2 8 rfl inb_S1x768x256_S1x64x256_0_512_0) (ldN x4 x3 8 rfl inb_S1x768x256_S1x64x256_0_512_0) x y (by omega) (by omega)
    exact t
  · have t := valE_tile (RX x0 x1 x2) (RN x4 x3) 8 (ldX x0 x1 x2 8 rfl inb_S1x768x256_S1x64x256_0_512_0) (ldN x4 x3 8 rfl inb_S1x768x256_S1x64x256_0_512_0) x y (by omega) (by omega)
    exact t
  · have t := valO_tile (RX x0 x1 x2) (RN x4 x3) 7 (ldX x0 x1 x2 7 rfl inb_S1x768x256_S1x64x256_0_448_0) (ldN x4 x3 7 rfl inb_S1x768x256_S1x64x256_0_448_0) x y (by omega) (by omega)
    exact t
  · have t := valE_tile (RX x0 x1 x2) (RN x4 x3) 7 (ldX x0 x1 x2 7 rfl inb_S1x768x256_S1x64x256_0_448_0) (ldN x4 x3 7 rfl inb_S1x768x256_S1x64x256_0_448_0) x y (by omega) (by omega)
    exact t
  · have t := valO_tile (RX x0 x1 x2) (RN x4 x3) 6 (ldX x0 x1 x2 6 rfl inb_S1x768x256_S1x64x256_0_384_0) (ldN x4 x3 6 rfl inb_S1x768x256_S1x64x256_0_384_0) x y (by omega) (by omega)
    exact t
  · have t := valE_tile (RX x0 x1 x2) (RN x4 x3) 6 (ldX x0 x1 x2 6 rfl inb_S1x768x256_S1x64x256_0_384_0) (ldN x4 x3 6 rfl inb_S1x768x256_S1x64x256_0_384_0) x y (by omega) (by omega)
    exact t
  · have t := valO_tile (RX x0 x1 x2) (RN x4 x3) 5 (ldX x0 x1 x2 5 rfl inb_S1x768x256_S1x64x256_0_320_0) (ldN x4 x3 5 rfl inb_S1x768x256_S1x64x256_0_320_0) x y (by omega) (by omega)
    exact t
  · have t := valE_tile (RX x0 x1 x2) (RN x4 x3) 5 (ldX x0 x1 x2 5 rfl inb_S1x768x256_S1x64x256_0_320_0) (ldN x4 x3 5 rfl inb_S1x768x256_S1x64x256_0_320_0) x y (by omega) (by omega)
    exact t
  · have t := valO_tile (RX x0 x1 x2) (RN x4 x3) 4 (ldX x0 x1 x2 4 rfl inb_S1x768x256_S1x64x256_0_256_0) (ldN x4 x3 4 rfl inb_S1x768x256_S1x64x256_0_256_0) x y (by omega) (by omega)
    exact t
  · have t := valE_tile (RX x0 x1 x2) (RN x4 x3) 4 (ldX x0 x1 x2 4 rfl inb_S1x768x256_S1x64x256_0_256_0) (ldN x4 x3 4 rfl inb_S1x768x256_S1x64x256_0_256_0) x y (by omega) (by omega)
    exact t
  · have t := valO_tile (RX x0 x1 x2) (RN x4 x3) 3 (ldX x0 x1 x2 3 rfl inb_S1x768x256_S1x64x256_0_192_0) (ldN x4 x3 3 rfl inb_S1x768x256_S1x64x256_0_192_0) x y (by omega) (by omega)
    exact t
  · have t := valE_tile (RX x0 x1 x2) (RN x4 x3) 3 (ldX x0 x1 x2 3 rfl inb_S1x768x256_S1x64x256_0_192_0) (ldN x4 x3 3 rfl inb_S1x768x256_S1x64x256_0_192_0) x y (by omega) (by omega)
    exact t
  · have t := valO_tile (RX x0 x1 x2) (RN x4 x3) 2 (ldX x0 x1 x2 2 rfl inb_S1x768x256_S1x64x256_0_128_0) (ldN x4 x3 2 rfl inb_S1x768x256_S1x64x256_0_128_0) x y (by omega) (by omega)
    exact t
  · have t := valE_tile (RX x0 x1 x2) (RN x4 x3) 2 (ldX x0 x1 x2 2 rfl inb_S1x768x256_S1x64x256_0_128_0) (ldN x4 x3 2 rfl inb_S1x768x256_S1x64x256_0_128_0) x y (by omega) (by omega)
    exact t
  · have t := valO_tile (RX x0 x1 x2) (RN x4 x3) 1 (ldX x0 x1 x2 1 rfl inb_S1x768x256_S1x64x256_0_64_0) (ldN x4 x3 1 rfl inb_S1x768x256_S1x64x256_0_64_0) x y (by omega) (by omega)
    exact t
  · have t := valE_tile (RX x0 x1 x2) (RN x4 x3) 1 (ldX x0 x1 x2 1 rfl inb_S1x768x256_S1x64x256_0_64_0) (ldN x4 x3 1 rfl inb_S1x768x256_S1x64x256_0_64_0) x y (by omega) (by omega)
    exact t
  · have t := valO_tile (RX x0 x1 x2) (RN x4 x3) 0 (ldX x0 x1 x2 0 rfl inb_S1x768x256_S1x64x256_0_0_0) (ldN x4 x3 0 rfl inb_S1x768x256_S1x64x256_0_0_0) x y (by omega) (by omega)
    exact t
  · have t := valE_tile (RX x0 x1 x2) (RN x4 x3) 0 (ldX x0 x1 x2 0 rfl inb_S1x768x256_S1x64x256_0_0_0) (ldN x4 x3 0 rfl inb_S1x768x256_S1x64x256_0_0_0) x y (by omega) (by omega)
    exact t

end Cert.KernelIdeal.Blk
-- ==== Proof.Arrays0.lean ====
module

public import proofs.«01_k».proof.Proof.Global
public import proofs.«01_k».proof.Proof.Pieces0
public import proofs.«01_k».proof.Proof.Gen.KernelIdeal.Frame

@[expose] public section

/-! The arrays the first region leaves, as functions of the arrays it reads. -/

set_option maxRecDepth 16384

noncomputable section

namespace Cert.KernelIdeal.Blk

open Idealize.ShloMosaic Idealize.ShloMosaic.TcCoe Idealize.SL.Sem Facts₀ Facts Cert.Quant Gen

/-- Where each window of this region stands at a grid point. -/
theorem idx0 : ∀ t : Fin cfg0.N,
    win0_0.index t = ![(grid0.coords t 0).val, 0, (grid0.coords t 1).val]
    ∧ win0_1.index t = ![(grid0.coords t 0).val, 0, (grid0.coords t 1).val]
    ∧ win0_2.index t = ![0, 0]
    ∧ win0_3.index t = ![0, 0]
    ∧ win0_4.index t = ![(grid0.coords t 0).val, 0, (grid0.coords t 1).val]
    ∧ win0_5.index t = ![(grid0.coords t 0).val, 0, (grid0.coords t 1).val]
    ∧ win0_6.index t = ![(grid0.coords t 0).val, 0, (grid0.coords t 1).val]
    ∧ win0_7.index t = ![(grid0.coords t 0).val, 0, (grid0.coords t 1).val] :=
  (by decide +kernel : ∀ t : Fin grid0.N, _)

/-- The batch entry of a grid point. -/
def bt0 (t : Fin cfg0.N) : Fin 2 := ⟨(grid0.coords t 0).val, (grid0.coords t 0).isLt⟩

/-- Column `l` of the tile of a grid point. -/
def col0 (t : Fin cfg0.N) (l : Fin 256) : Fin 7168 :=
  ⟨(grid0.coords t 1).val * 256 + l.val, by have : (grid0.coords t 1).val < 28 := (grid0.coords t 1).isLt; omega⟩

variable (V : (c : Dev nD) → (b : Ref sig .tc) → Buf (Elt Ideal) ((c : Thread nD τ).loc b)) (c : Dev nD)

theorem rd0_0 (t : Fin cfg0.N) (k : Fin 768) (l : Fin 256) :
    (iblk0 V c 0 t : Vec Ideal S1x768x256 .bf16) (ix3 0 k l)
      = (V c main_arg0 : Vec Ideal S2x768x7168 .bf16) (ix3 (bt0 t) k (col0 t l)) := by
  unfold bt0 col0
  blk_simp [iblk0]
  blk_ext [idx0 t]

theorem rd0_1 (t : Fin cfg0.N) (k : Fin 768) (l : Fin 256) :
    (iblk0 V c 1 t : Vec Ideal S1x768x256 .bf16) (ix3 0 k l)
      = (V c main_arg1 : Vec Ideal S2x768x7168 .bf16) (ix3 (bt0 t) k (col0 t l)) := by
  unfold bt0 col0
  blk_simp [iblk0]
  blk_ext [idx0 t]

theorem rd0_4 (t : Fin cfg0.N) (k : Fin 768) (l : Fin 256) :
    (iblk0 V c 4 t : Vec Ideal S1x768x256 .i8) (ix3 0 k l)
      = (V c main_arg4 : Vec Ideal S2x768x7168 .i8) (ix3 (bt0 t) k (col0 t l)) := by
  unfold bt0 col0
  blk_simp [iblk0]
  blk_ext [idx0 t]

theorem rd0_2 (t : Fin cfg0.N) (k l : Fin 64) :
    (iblk0 V c 2 t : Vec Ideal S64x64 .f32) (ix2 k l) = (V c main_v28 : Vec Ideal S64x64 .f32) (ix2 k l) := by
  blk_simp [iblk0]
  blk_ext [idx0 t]

theorem rd0_3 (t : Fin cfg0.N) (k l : Fin 64) :
    (iblk0 V c 3 t : Vec Ideal S64x64 .bf16) (ix2 k l) = (V c main_v34 : Vec Ideal S64x64 .bf16) (ix2 k l) := by
  blk_simp [iblk0]
  blk_ext [idx0 t]

/-- The groups of this region's operand. -/
def GG0 : Groups 7168 := gAct (fun a b => (V c main_v28 : Vec Ideal S64x64 .f32) (ix2 a b)) (fun b t c' => (V c main_arg0 : Vec Ideal S2x768x7168 .bf16) (ix3 b t c')) (fun b t c' => (V c main_arg1 : Vec Ideal S2x768x7168 .bf16) (ix3 b t c'))

/-- The groups of this region's random numbers. -/
def NN0 : Groups 7168 := gNum (fun a b => (V c main_v34 : Vec Ideal S64x64 .bf16) (ix2 a b)) (fun b t c' => (V c main_arg4 : Vec Ideal S2x768x7168 .i8) (ix3 b t c'))

theorem grp0_G (t : Fin cfg0.N) (n : Fin 24) (l : Fin 256) :
    grp (RX (iblk0 V c 0 t) (iblk0 V c 1 t) (iblk0 V c 2 t)) n l = GG0 V c (bt0 t) (col0 t l) n := by
  refine (grpX _ _ _ n l).trans ?_
  unfold GG0 gAct
  simp only [rd0_0, rd0_1, rd0_2]

theorem grp0_N (t : Fin cfg0.N) (n : Fin 24) (l : Fin 256) :
    grp (RN (iblk0 V c 4 t) (iblk0 V c 3 t)) n l = NN0 V c (bt0 t) (col0 t l) n := by
  refine (grpN _ _ n l).trans ?_
  unfold NN0 gNum
  simp only [rd0_4, rd0_3]

theorem arr0_5 : (dat0 V c).arrAt 5 cfg0.N
    = (fun i : S2x384x7168.Idx => kCodes (GG0 V c) (NN0 V c) (i 0) (i 1) (i 2) : Vec Ideal S2x384x7168 .i8) := by
  refine (dat0 V c).arrAt_eq_of_covers 5 _ (by decide +kernel) fun t hf y => ?_
  blk_simp
  rw [after0_5, out0_5_eq]
  have hy : (y : S1x384x256.Idx) = ix3 0 ((y : S1x384x256.Idx) 1) ((y : S1x384x256.Idx) 2) := by blk_ext
  have he : (win0_5.blk t).view.emb y = ix3 (bt0 t) ((y : S1x384x256.Idx) 1) (col0 t ((y : S1x384x256.Idx) 2)) := by
    unfold bt0 col0
    blk_ext [idx0 t]
  rw [he]
  refine (congrArg _ hy).trans ?_
  exact tCodes_at (grp0_G V c t) (grp0_N V c t) _ _

theorem arr0_6 : (dat0 V c).arrAt 6 cfg0.N
    = (fun i : S2x24x7168.Idx => kScales (GG0 V c) (i 0) (i 1) (i 2) : Vec Ideal S2x24x7168 .i8) := by
  refine (dat0 V c).arrAt_eq_of_covers 6 _ (by decide +kernel) fun t hf y => ?_
  blk_simp
  rw [after0_6, out0_6_eq]
  have hy : (y : S1x24x256.Idx) = ix3 0 ((y : S1x24x256.Idx) 1) ((y : S1x24x256.Idx) 2) := by blk_ext
  have he : (win0_6.blk t).view.emb y = ix3 (bt0 t) ((y : S1x24x256.Idx) 1) (col0 t ((y : S1x24x256.Idx) 2)) := by
    unfold bt0 col0
    blk_ext [idx0 t]
  rw [he]
  refine (congrArg _ hy).trans ?_
  exact tScales_at (grp0_G V c t) _ _

theorem arr0_7 : (dat0 V c).arrAt 7 cfg0.N
    = (fun i : S2x768x7168.Idx => kVals (GG0 V c) (NN0 V c) (i 0) (i 1) (i 2) : Vec Ideal S2x768x7168 .bf16) := by
  refine (dat0 V c).arrAt_eq_of_covers 7 _ (by decide +kernel) fun t hf y => ?_
  blk_simp
  rw [after0_7, out0_7_eq]
  have hy : (y : S1x768x256.Idx) = ix3 0 ((y : S1x768x256.Idx) 1) ((y : S1x768x256.Idx) 2) := by blk_ext
  have he : (win0_7.blk t).view.emb y = ix3 (bt0 t) ((y : S1x768x256.Idx) 1) (col0 t ((y : S1x768x256.Idx) 2)) := by
    unfold bt0 col0
    blk_ext [idx0 t]
  rw [he]
  refine (congrArg _ hy).trans ?_
  exact tVals_at (grp0_G V c t) (grp0_N V c t) _ _

end Cert.KernelIdeal.Blk
-- ==== Proof.Pieces1.lean ====
/- The gradient's tile: each of the buffers the body fills by stores holds the tile's codes, scales or values. -/
module

public import proofs.«01_k».proof.Proof.Tile

@[expose] public section

set_option maxRecDepth 16384

noncomputable section

namespace Cert.KernelIdeal.Blk

open Idealize.ShloMosaic Idealize.SL.Sem Facts₀ Facts Cert.Quant

/-- The codes the body stores for a tile of the gradient. -/
theorem out1_4_eq (x0 : Vec Ideal S1x768x256 .bf16) (x1 : Vec Ideal S64x64 .f32) (x2 : Vec Ideal S64x64 .bf16) (x3 : Vec Ideal S1x768x256 .i8) :
    Gen.out1_4 x0 x1 x2 x3 = tCodes (RY x0 x1) (RN x3 x2) := by
  funext y
  canon_tiles x h
  · have t := codes_tile (RY x0 x1) (RN x3 x2) 11 (ldY x0 x1 11 rfl inb_S1x768x256_S1x64x256_0_704_0) (ldN x3 x2 11 rfl inb_S1x768x256_S1x64x256_0_704_0) x y (by omega) (by omega)
    exact t
  · have t := codes_tile (RY x0 x1) (RN x3 x2) 10 (ldY x0 x1 10 rfl inb_S1x768x256_S1x64x256_0_640_0) (ldN x3 x2 10 rfl inb_S1x768x256_S1x64x256_0_640_0) x y (by omega) (by omega)
    exact t
  · have t := codes_tile (RY x0 x1) (RN x3 x2) 9 (ldY x0 x1 9 rfl inb_S1x768x256_S1x64x256_0_576_0) (ldN x3 x2 9 rfl inb_S1x768x256_S1x64x256_0_576_0) x y (by omega) (by omega)
    exact t
  · have t := codes_tile (RY x0 x1) (RN x3 x2) 8 (ldY x0 x1 8 rfl inb_S1x768x256_S1x64x256_0_512_0) (ldN x3 x2 8 rfl inb_S1x768x256_S1x64x256_0_512_0) x y (by omega) (by omega)
    exact t
  · have t := codes_tile (RY x0 x1) (RN x3 x2) 7 (ldY x0 x1 7 rfl inb_S1x768x256_S1x64x256_0_448_0) (ldN x3 x2 7 rfl inb_S1x768x256_S1x64x256_0_448_0) x y (by omega) (by omega)
    exact t
  · have t := codes_tile (RY x0 x1) (RN x3 x2) 6 (ldY x0 x1 6 rfl inb_S1x768x256_S1x64x256_0_384_0) (ldN x3 x2 6 rfl inb_S1x768x256_S1x64x256_0_384_0) x y (by omega) (by omega)
    exact t
  · have t := codes_tile (RY x0 x1) (RN x3 x2) 5 (ldY x0 x1 5 rfl inb_S1x768x256_S1x64x256_0_320_0) (ldN x3 x2 5 rfl inb_S1x768x256_S1x64x256_0_320_0) x y (by omega) (by omega)
    exact t
  · have t := codes_tile (RY x0 x1) (RN x3 x2) 4 (ldY x0 x1 4 rfl inb_S1x768x256_S1x64x256_0_256_0) (ldN x3 x2 4 rfl inb_S1x768x256_S1x64x256_0_256_0) x y (by omega) (by omega)
    exact t
  · have t := codes_tile (RY x0 x1) (RN x3 x2) 3 (ldY x0 x1 3 rfl inb_S1x768x256_S1x64x256_0_192_0) (ldN x3 x2 3 rfl inb_S1x768x256_S1x64x256_0_192_0) x y (by omega) (by omega)
    exact t
  · have t := codes_tile (RY x0 x1) (RN x3 x2) 2 (ldY x0 x1 2 rfl inb_S1x768x256_S1x64x256_0_128_0) (ldN x3 x2 2 rfl inb_S1x768x256_S1x64x256_0_128_0) x y (by omega) (by omega)
    exact t
  · have t := codes_tile (RY x0 x1) (RN x3 x2) 1 (ldY x0 x1 1 rfl inb_S1x768x256_S1x64x256_0_64_0) (ldN x3 x2 1 rfl inb_S1x768x256_S1x64x256_0_64_0) x y (by omega) (by omega)
    exact t
  · have t := codes_tile (RY x0 x1) (RN x3 x2) 0 (ldY x0 x1 0 rfl inb_S1x768x256_S1x64x256_0_0_0) (ldN x3 x2 0 rfl inb_S1x768x256_S1x64x256_0_0_0) x y (by omega) (by omega)
    exact t

/-- The scales the body stores for a tile of the gradient. -/
theorem out1_5_eq (x0 : Vec Ideal S1x768x256 .bf16) (x1 : Vec Ideal S64x64 .f32) (x2 : Vec Ideal S64x64 .bf16) (x3 : Vec Ideal S1x768x256 .i8) :
    Gen.out1_5 x0 x1 x2 x3 = tScales (RY x0 x1) := by
  funext y
  canon_tiles x k
  obtain ⟨j, q0, q1, hj⟩ := bytes_at x
  refine (hj _).trans ?_
  unfold tScales sScale
  congr 1
  concat_tiles i h
  · have t := scale0_tile (RY x0 x1) 0 (ldY x0 x1 0 rfl inb_S1x768x256_S1x64x256_0_0_0) i (y 1) (y 2) (by omega) (by omega)
    exact t
  · have t := scale1_tile (RY x0 x1) 0 (ldY x0 x1 0 rfl inb_S1x768x256_S1x64x256_0_0_0) i (y 1) (y 2) (by omega) (by omega)
    exact t
  · have t := scale0_tile (RY x0 x1) 1 (ldY x0 x1 1 rfl inb_S1x768x256_S1x64x256_0_64_0) i (y 1) (y 2) (by omega) (by omega)
    exact t
  · have t := scale1_tile (RY x0 x1) 1 (ldY x0 x1 1 rfl inb_S1x768x256_S1x64x256_0_64_0) i (y 1) (y 2) (by omega) (by omega)
    exact t
  · have t := scale0_tile (RY x0 x1) 2 (ldY x0 x1 2 rfl inb_S1x768x256_S1x64x256_0_128_0) i (y 1) (y 2) (by omega) (by omega)
    exact t
  · have t := scale1_tile (RY x0 x1) 2 (ldY x0 x1 2 rfl inb_S1x768x256_S1x64x256_0_128_0) i (y 1) (y 2) (by omega) (by omega)
    exact t
  · have t := scale0_tile (RY x0 x1) 3 (ldY x0 x1 3 rfl inb_S1x768x256_S1x64x256_0_192_0) i (y 1) (y 2) (by omega) (by omega)
    exact t
  · have t := scale1_tile (RY x0 x1) 3 (ldY x0 x1 3 rfl inb_S1x768x256_S1x64x256_0_192_0) i (y 1) (y 2) (by omega) (by omega)
    exact t
  · have t := scale0_tile (RY x0 x1) 4 (ldY x0 x1 4 rfl inb_S1x768x256_S1x64x256_0_256_0) i (y 1) (y 2) (by omega) (by omega)
    exact t
  · have t := scale1_tile (RY x0 x1) 4 (ldY x0 x1 4 rfl inb_S1x768x256_S1x64x256_0_256_0) i (y 1) (y 2) (by omega) (by omega)
    exact t
  · have t := scale0_tile (RY x0 x1) 5 (ldY x0 x1 5 rfl inb_S1x768x256_S1x64x256_0_320_0) i (y 1) (y 2) (by omega) (by omega)
    exact t
  · have t := scale1_tile (RY x0 x1) 5 (ldY x0 x1 5 rfl inb_S1x768x256_S1x64x256_0_320_0) i (y 1) (y 2) (by omega) (by omega)
    exact t
  · have t := scale0_tile (RY x0 x1) 6 (ldY x0 x1 6 rfl inb_S1x768x256_S1x64x256_0_384_0) i (y 1) (y 2) (by omega) (by omega)
    exact t
  · have t := scale1_tile (RY x0 x1) 6 (ldY x0 x1 6 rfl inb_S1x768x256_S1x64x256_0_384_0) i (y 1) (y 2) (by omega) (by omega)
    exact t
  · have t := scale0_tile (RY x0 x1) 7 (ldY x0 x1 7 rfl inb_S1x768x256_S1x64x256_0_448_0) i (y 1) (y 2) (by omega) (by omega)
    exact t
  · have t := scale1_tile (RY x0 x1) 7 (ldY x0 x1 7 rfl inb_S1x768x256_S1x64x256_0_448_0) i (y 1) (y 2) (by omega) (by omega)
    exact t
  · have t := scale0_tile (RY x0 x1) 8 (ldY x0 x1 8 rfl inb_S1x768x256_S1x64x256_0_512_0) i (y 1) (y 2) (by omega) (by omega)
    exact t
  · have t := scale1_tile (RY x0 x1) 8 (ldY x0 x1 8 rfl inb_S1x768x256_S1x64x256_0_512_0) i (y 1) (y 2) (by omega) (by omega)
    exact t
  · have t := scale0_tile (RY x0 x1) 9 (ldY x0 x1 9 rfl inb_S1x768x256_S1x64x256_0_576_0) i (y 1) (y 2) (by omega) (by omega)
    exact t
  · have t := scale1_tile (RY x0 x1) 9 (ldY x0 x1 9 rfl inb_S1x768x256_S1x64x256_0_576_0) i (y 1) (y 2) (by omega) (by omega)
    exact t
  · have t := scale0_tile (RY x0 x1) 10 (ldY x0 x1 10 rfl inb_S1x768x256_S1x64x256_0_640_0) i (y 1) (y 2) (by omega) (by omega)
    exact t
  · have t := scale1_tile (RY x0 x1) 10 (ldY x0 x1 10 rfl inb_S1x768x256_S1x64x256_0_640_0) i (y 1) (y 2) (by omega) (by omega)
    exact t
  · have t := scale0_tile (RY x0 x1) 11 (ldY x0 x1 11 rfl inb_S1x768x256_S1x64x256_0_704_0) i (y 1) (y 2) (by omega) (by omega)
    exact t
  · have t := scale1_tile (RY x0 x1) 11 (ldY x0 x1 11 rfl inb_S1x768x256_S1x64x256_0_704_0) i (y 1) (y 2) (by omega) (by omega)
    exact t

/-- The values the body stores for a tile of the gradient. -/
theorem out1_6_eq (x0 : Vec Ideal S1x768x256 .bf16) (x1 : Vec Ideal S64x64 .f32) (x2 : Vec Ideal S64x64 .bf16) (x3 : Vec Ideal S1x768x256 .i8) :
    Gen.out1_6 x0 x1 x2 x3 = tVals (RY x0 x1) (RN x3 x2) := by
  funext y
  canon_tiles x h
  · have t := valO_tile (RY x0 x1) (RN x3 x2) 11 (ldY x0 x1 11 rfl inb_S1x768x256_S1x64x256_0_704_0) (ldN x3 x2 11 rfl inb_S1x768x256_S1x64x256_0_704_0) x y (by omega) (by omega)
    exact t
  · have t := valE_tile (RY x0 x1) (RN x3 x2) 11 (ldY x0 x1 11 rfl inb_S1x768x256_S1x64x256_0_704_0) (ldN x3 x2 11 rfl inb_S1x768x256_S1x64x256_0_704_0) x y (by omega) (by omega)
    exact t
  · have t := valO_tile (RY x0 x1) (RN x3 x2) 10 (ldY x0 x1 10 rfl inb_S1x768x256_S1x64x256_0_640_0) (ldN x3 x2 10 rfl inb_S1x768x256_S1x64x256_0_640_0) x y (by omega) (by omega)
    exact t
  · have t := valE_tile (RY x0 x1) (RN x3 x2) 10 (ldY x0 x1 10 rfl inb_S1x768x256_S1x64x256_0_640_0) (ldN x3 x2 10 rfl inb_S1x768x256_S1x64x256_0_640_0) x y (by omega) (by omega)
    exact t
  · have t := valO_tile (RY x0 x1) (RN x3 x2) 9 (ldY x0 x1 9 rfl inb_S1x768x256_S1x64x256_0_576_0) (ldN x3 x2 9 rfl inb_S1x768x256_S1x64x256_0_576_0) x y (by omega) (by omega)
    exact t
  · have t := valE_tile (RY x0 x1) (RN x3 x2) 9 (ldY x0 x1 9 rfl inb_S1x768x256_S1x64x256_0_576_0) (ldN x3 x2 9 rfl inb_S1x768x256_S1x64x256_0_576_0) x y (by omega) (by omega)
    exact t
  · have t := valO_tile (RY x0 x1) (RN x3 x2) 8 (ldY x0 x1 8 rfl inb_S1x768x256_S1x64x256_0_512_0) (ldN x3 x2 8 rfl inb_S1x768x256_S1x64x256_0_512_0) x y (by omega) (by omega)
    exact t
  · have t := valE_tile (RY x0 x1) (RN x3 x2) 8 (ldY x0 x1 8 rfl inb_S1x768x256_S1x64x256_0_512_0) (ldN x3 x2 8 rfl inb_S1x768x256_S1x64x256_0_512_0) x y (by omega) (by omega)
    exact t
  · have t := valO_tile (RY x0 x1) (RN x3 x2) 7 (ldY x0 x1 7 rfl inb_S1x768x256_S1x64x256_0_448_0) (ldN x3 x2 7 rfl inb_S1x768x256_S1x64x256_0_448_0) x y (by omega) (by omega)
    exact t
  · have t := valE_tile (RY x0 x1) (RN x3 x2) 7 (ldY x0 x1 7 rfl inb_S1x768x256_S1x64x256_0_448_0) (ldN x3 x2 7 rfl inb_S1x768x256_S1x64x256_0_448_0) x y (by omega) (by omega)
    exact t
  · have t := valO_tile (RY x0 x1) (RN x3 x2) 6 (ldY x0 x1 6 rfl inb_S1x768x256_S1x64x256_0_384_0) (ldN x3 x2 6 rfl inb_S1x768x256_S1x64x256_0_384_0) x y (by omega) (by omega)
    exact t
  · have t := valE_tile (RY x0 x1) (RN x3 x2) 6 (ldY x0 x1 6 rfl inb_S1x768x256_S1x64x256_0_384_0) (ldN x3 x2 6 rfl inb_S1x768x256_S1x64x256_0_384_0) x y (by omega) (by omega)
    exact t
  · have t := valO_tile (RY x0 x1) (RN x3 x2) 5 (ldY x0 x1 5 rfl inb_S1x768x256_S1x64x256_0_320_0) (ldN x3 x2 5 rfl inb_S1x768x256_S1x64x256_0_320_0) x y (by omega) (by omega)
    exact t
  · have t := valE_tile (RY x0 x1) (RN x3 x2) 5 (ldY x0 x1 5 rfl inb_S1x768x256_S1x64x256_0_320_0) (ldN x3 x2 5 rfl inb_S1x768x256_S1x64x256_0_320_0) x y (by omega) (by omega)
    exact t
  · have t := valO_tile (RY x0 x1) (RN x3 x2) 4 (ldY x0 x1 4 rfl inb_S1x768x256_S1x64x256_0_256_0) (ldN x3 x2 4 rfl inb_S1x768x256_S1x64x256_0_256_0) x y (by omega) (by omega)
    exact t
  · have t := valE_tile (RY x0 x1) (RN x3 x2) 4 (ldY x0 x1 4 rfl inb_S1x768x256_S1x64x256_0_256_0) (ldN x3 x2 4 rfl inb_S1x768x256_S1x64x256_0_256_0) x y (by omega) (by omega)
    exact t
  · have t := valO_tile (RY x0 x1) (RN x3 x2) 3 (ldY x0 x1 3 rfl inb_S1x768x256_S1x64x256_0_192_0) (ldN x3 x2 3 rfl inb_S1x768x256_S1x64x256_0_192_0) x y (by omega) (by omega)
    exact t
  · have t := valE_tile (RY x0 x1) (RN x3 x2) 3 (ldY x0 x1 3 rfl inb_S1x768x256_S1x64x256_0_192_0) (ldN x3 x2 3 rfl inb_S1x768x256_S1x64x256_0_192_0) x y (by omega) (by omega)
    exact t
  · have t := valO_tile (RY x0 x1) (RN x3 x2) 2 (ldY x0 x1 2 rfl inb_S1x768x256_S1x64x256_0_128_0) (ldN x3 x2 2 rfl inb_S1x768x256_S1x64x256_0_128_0) x y (by omega) (by omega)
    exact t
  · have t := valE_tile (RY x0 x1) (RN x3 x2) 2 (ldY x0 x1 2 rfl inb_S1x768x256_S1x64x256_0_128_0) (ldN x3 x2 2 rfl inb_S1x768x256_S1x64x256_0_128_0) x y (by omega) (by omega)
    exact t
  · have t := valO_tile (RY x0 x1) (RN x3 x2) 1 (ldY x0 x1 1 rfl inb_S1x768x256_S1x64x256_0_64_0) (ldN x3 x2 1 rfl inb_S1x768x256_S1x64x256_0_64_0) x y (by omega) (by omega)
    exact t
  · have t := valE_tile (RY x0 x1) (RN x3 x2) 1 (ldY x0 x1 1 rfl inb_S1x768x256_S1x64x256_0_64_0) (ldN x3 x2 1 rfl inb_S1x768x256_S1x64x256_0_64_0) x y (by omega) (by omega)
    exact t
  · have t := valO_tile (RY x0 x1) (RN x3 x2) 0 (ldY x0 x1 0 rfl inb_S1x768x256_S1x64x256_0_0_0) (ldN x3 x2 0 rfl inb_S1x768x256_S1x64x256_0_0_0) x y (by omega) (by omega)
    exact t
  · have t := valE_tile (RY x0 x1) (RN x3 x2) 0 (ldY x0 x1 0 rfl inb_S1x768x256_S1x64x256_0_0_0) (ldN x3 x2 0 rfl inb_S1x768x256_S1x64x256_0_0_0) x y (by omega) (by omega)
    exact t

end Cert.KernelIdeal.Blk
-- ==== Proof.Arrays1.lean ====
module

public import proofs.«01_k».proof.Proof.Global
public import proofs.«01_k».proof.Proof.Pieces1
public import proofs.«01_k».proof.Proof.Gen.KernelIdeal.Frame

@[expose] public section

/-! The arrays the second region leaves, as functions of the arrays it reads. -/

set_option maxRecDepth 16384

noncomputable section

namespace Cert.KernelIdeal.Blk

open Idealize.ShloMosaic Idealize.ShloMosaic.TcCoe Idealize.SL.Sem Facts₀ Facts Cert.Quant Gen

/-- Where each window of this region stands at a grid point. -/
theorem idx1 : ∀ t : Fin cfg1.N,
    win1_0.index t = ![(grid1.coords t 0).val, 0, (grid1.coords t 1).val]
    ∧ win1_1.index t = ![0, 0]
    ∧ win1_2.index t = ![0, 0]
    ∧ win1_3.index t = ![(grid1.coords t 0).val, 0, (grid1.coords t 1).val]
    ∧ win1_4.index t = ![(grid1.coords t 0).val, 0, (grid1.coords t 1).val]
    ∧ win1_5.index t = ![(grid1.coords t 0).val, 0, (grid1.coords t 1).val]
    ∧ win1_6.index t = ![(grid1.coords t 0).val, 0, (grid1.coords t 1).val] :=
  (by decide +kernel : ∀ t : Fin grid1.N, _)

/-- The batch entry of a grid point. -/
def bt1 (t : Fin cfg1.N) : Fin 2 := ⟨(grid1.coords t 0).val, (grid1.coords t 0).isLt⟩

/-- Column `l` of the tile of a grid point. -/
def col1 (t : Fin cfg1.N) (l : Fin 256) : Fin 18432 :=
  ⟨(grid1.coords t 1).val * 256 + l.val, by have : (grid1.coords t 1).val < 72 := (grid1.coords t 1).isLt; omega⟩

variable (V : (c : Dev nD) → (b : Ref sig .tc) → Buf (Elt Ideal) ((c : Thread nD τ).loc b)) (c : Dev nD)

theorem rd1_0 (t : Fin cfg1.N) (k : Fin 768) (l : Fin 256) :
    (iblk1 V c 0 t : Vec Ideal S1x768x256 .bf16) (ix3 0 k l)
      = (V c main_arg2 : Vec Ideal S2x768x18432 .bf16) (ix3 (bt1 t) k (col1 t l)) := by
  unfold bt1 col1
  blk_simp [iblk1]
  blk_ext [idx1 t]

theorem rd1_3 (t : Fin cfg1.N) (k : Fin 768) (l : Fin 256) :
    (iblk1 V c 3 t : Vec Ideal S1x768x256 .i8) (ix3 0 k l)
      = (V c main_arg5 : Vec Ideal S2x768x18432 .i8) (ix3 (bt1 t) k (col1 t l)) := by
  unfold bt1 col1
  blk_simp [iblk1]
  blk_ext [idx1 t]

theorem rd1_1 (t : Fin cfg1.N) (k l : Fin 64) :
    (iblk1 V c 1 t : Vec Ideal S64x64 .f32) (ix2 k l) = (V c main_v28 : Vec Ideal S64x64 .f32) (ix2 k l) := by
  blk_simp [iblk1]
  blk_ext [idx1 t]

theorem rd1_2 (t : Fin cfg1.N) (k l : Fin 64) :
    (iblk1 V c 2 t : Vec Ideal S64x64 .bf16) (ix2 k l) = (V c main_v34 : Vec Ideal S64x64 .bf16) (ix2 k l) := by
  blk_simp [iblk1]
  blk_ext [idx1 t]

/-- The groups of this region's operand. -/
def GG1 : Groups 18432 := gOne (fun a b => (V c main_v28 : Vec Ideal S64x64 .f32) (ix2 a b)) (fun b t c' => (V c main_arg2 : Vec Ideal S2x768x18432 .bf16) (ix3 b t c'))

/-- The groups of this region's random numbers. -/
def NN1 : Groups 18432 := gNum (fun a b => (V c main_v34 : Vec Ideal S64x64 .bf16) (ix2 a b)) (fun b t c' => (V c main_arg5 : Vec Ideal S2x768x18432 .i8) (ix3 b t c'))

theorem grp1_G (t : Fin cfg1.N) (n : Fin 24) (l : Fin 256) :
    grp (RY (iblk1 V c 0 t) (iblk1 V c 1 t)) n l = GG1 V c (bt1 t) (col1 t l) n := by
  refine (grpY _ _ n l).trans ?_
  unfold GG1 gOne
  simp only [rd1_0, rd1_1]

theorem grp1_N (t : Fin cfg1.N) (n : Fin 24) (l : Fin 256) :
    grp (RN (iblk1 V c 3 t) (iblk1 V c 2 t)) n l = NN1 V c (bt1 t) (col1 t l) n := by
  refine (grpN _ _ n l).trans ?_
  unfold NN1 gNum
  simp only [rd1_3, rd1_2]

theorem arr1_4 : (dat1 V c).arrAt 4 cfg1.N
    = (fun i : S2x384x18432.Idx => kCodes (GG1 V c) (NN1 V c) (i 0) (i 1) (i 2) : Vec Ideal S2x384x18432 .i8) := by
  refine (dat1 V c).arrAt_eq_of_covers 4 _ (by decide +kernel) fun t hf y => ?_
  blk_simp
  rw [after1_4, out1_4_eq]
  have hy : (y : S1x384x256.Idx) = ix3 0 ((y : S1x384x256.Idx) 1) ((y : S1x384x256.Idx) 2) := by blk_ext
  have he : (win1_4.blk t).view.emb y = ix3 (bt1 t) ((y : S1x384x256.Idx) 1) (col1 t ((y : S1x384x256.Idx) 2)) := by
    unfold bt1 col1
    blk_ext [idx1 t]
  rw [he]
  refine (congrArg _ hy).trans ?_
  exact tCodes_at (grp1_G V c t) (grp1_N V c t) _ _

theorem arr1_5 : (dat1 V c).arrAt 5 cfg1.N
    = (fun i : S2x24x18432.Idx => kScales (GG1 V c) (i 0) (i 1) (i 2) : Vec Ideal S2x24x18432 .i8) := by
  refine (dat1 V c).arrAt_eq_of_covers 5 _ (by decide +kernel) fun t hf y => ?_
  blk_simp
  rw [after1_5, out1_5_eq]
  have hy : (y : S1x24x256.Idx) = ix3 0 ((y : S1x24x256.Idx) 1) ((y : S1x24x256.Idx) 2) := by blk_ext
  have he : (win1_5.blk t).view.emb y = ix3 (bt1 t) ((y : S1x24x256.Idx) 1) (col1 t ((y : S1x24x256.Idx) 2)) := by
    unfold bt1 col1
    blk_ext [idx1 t]
  rw [he]
  refine (congrArg _ hy).trans ?_
  exact tScales_at (grp1_G V c t) _ _

theorem arr1_6 : (dat1 V c).arrAt 6 cfg1.N
    = (fun i : S2x768x18432.Idx => kVals (GG1 V c) (NN1 V c) (i 0) (i 1) (i 2) : Vec Ideal S2x768x18432 .bf16) := by
  refine (dat1 V c).arrAt_eq_of_covers 6 _ (by decide +kernel) fun t hf y => ?_
  blk_simp
  rw [after1_6, out1_6_eq]
  have hy : (y : S1x768x256.Idx) = ix3 0 ((y : S1x768x256.Idx) 1) ((y : S1x768x256.Idx) 2) := by blk_ext
  have he : (win1_6.blk t).view.emb y = ix3 (bt1 t) ((y : S1x768x256.Idx) 1) (col1 t ((y : S1x768x256.Idx) 2)) := by
    unfold bt1 col1
    blk_ext [idx1 t]
  rw [he]
  refine (congrArg _ hy).trans ?_
  exact tVals_at (grp1_G V c t) (grp1_N V c t) _ _

end Cert.KernelIdeal.Blk
-- ==== Proof.Arrays2.lean ====
module

public import proofs.«01_k».proof.Proof.Global
public import proofs.«01_k».proof.Proof.Gen.KernelIdeal.Frame

@[expose] public section

/-! The product the third region leaves: every entry is one sum over the 1536 rows of its two operands. -/

set_option maxRecDepth 16384

noncomputable section

namespace Cert.KernelIdeal.Blk

open Idealize.ShloMosaic Idealize.ShloMosaic.TcCoe Idealize.SL.Sem Facts₀ Facts Cert.Quant Gen

/-- Where each window of this region stands at a grid point. -/
theorem idx2 : ∀ t : Fin cfg2.N,
    win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)

/-- Row `p` of the tile of a grid point. -/
def row2 (t : Fin cfg2.N) (p : Fin 512) : Fin 18432 :=
  ⟨(grid2.coords t 0).val * 512 + p.val, by have : (grid2.coords t 0).val < 36 := (grid2.coords t 0).isLt; omega⟩

/-- Column `l` of the tile of a grid point. -/
def col2 (t : Fin cfg2.N) (l : Fin 1024) : Fin 7168 :=
  ⟨(grid2.coords t 1).val * 1024 + l.val, by have : (grid2.coords t 1).val < 7 := (grid2.coords t 1).isLt; omega⟩

/-- A whole load reads the block. -/
theorem ld_whole {n0 n1 : ℕ} {α : EltTy} (x : Vec Ideal ⟨2, ![n0, n1]⟩ α)
    (h : ∀ a, (![0, 0] : Fin 2 → ℕ) a + (⟨2, ![n0, n1]⟩ : Shape).size a ≤ (⟨2, ![n0, n1]⟩ : Shape).size a) :
    View.ld x (Rect.unit (s := ⟨2, ![n0, n1]⟩) ![0, 0] (⟨2, ![n0, n1]⟩ : Shape).size h) = x := by
  funext i
  show x _ = x _
  congr 1
  funext a
  apply Fin.ext
  fin_cases a <;> simp

/-- A tile of the product. -/
theorem out2_2_at (x0 : Vec Ideal S1536x512 .bf16) (x1 : Vec Ideal S1536x1024 .bf16) (p : Fin 512) (l : Fin 1024) :
    out2_2 x0 x1 (ix2 p l) = ∑ r : Fin 1536, (x0 (ix2 r p) : EReal) * x1 (ix2 r l) := by
  have h : out2_2 x0 x1 = k2_pay1 x0 x1 := by
    funext y
    unfold out2_2
    rw [show View.ld x0 r2_0 = x0 from ld_whole x0 _, show View.ld x1 r2_1 = x1 from ld_whole x1 _]
    canon_tiles y k
    congr 1
    blk_ext [k0, k1]
  rw [h]
  pointwise! [k2_pay1]

variable (V : (c : Dev nD) → (b : Ref sig .tc) → Buf (Elt Ideal) ((c : Thread nD τ).loc b)) (c : Dev nD)

theorem rd2_0 (t : Fin cfg2.N) (r : Fin 1536) (p : Fin 512) :
    (iblk2 V c 0 t : Vec Ideal S1536x512 .bf16) (ix2 r p) = (V c main_v37 : Vec Ideal S1536x18432 .bf16) (ix2 r (row2 t p)) := by
  unfold row2
  blk_simp [iblk2]
  blk_ext [idx2 t]

theorem rd2_1 (t : Fin cfg2.N) (r : Fin 1536) (l : Fin 1024) :
    (iblk2 V c 1 t : Vec Ideal S1536x1024 .bf16) (ix2 r l) = (V c main_v38 : Vec Ideal S1536x7168 .bf16) (ix2 r (col2 t l)) := by
  unfold col2
  blk_simp [iblk2]
  blk_ext [idx2 t]

/-- The product of two arrays over their rows. -/
def prod (A : Vec Ideal S1536x18432 .bf16) (B : Vec Ideal S1536x7168 .bf16) (p : Fin 18432) (l : Fin 7168) : EReal :=
  ∑ r : Fin 1536, (A (ix2 r p) : EReal) * B (ix2 r l)

theorem arr2_2 : (dat2 V c).arrAt 2 cfg2.N
    = (fun i : S18432x7168.Idx => prod (V c main_v37) (V c main_v38) (i 0) (i 1) : Vec Ideal S18432x7168 .f32) := by
  refine (dat2 V c).arrAt_eq_of_covers 2 _ (by decide +kernel) fun t hf y => ?_
  blk_simp
  rw [after2_2]
  have hy : (y : S512x1024.Idx) = ix2 ((y : S512x1024.Idx) 0) ((y : S512x1024.Idx) 1) := by blk_ext
  have he : (win2_2.blk t).view.emb y = ix2 (row2 t ((y : S512x1024.Idx) 0)) (col2 t ((y : S512x1024.Idx) 1)) := by
    unfold row2 col2
    blk_ext [idx2 t]
  rw [he]
  refine (congrArg _ hy).trans ?_
  refine (out2_2_at _ _ _ _).trans ?_
  unfold prod
  exact Finset.sum_congr rfl fun r _ => congrArg₂ (fun x y : EReal => x * y) (rd2_0 V c t r _) (rd2_1 V c t r _)

end Cert.KernelIdeal.Blk
-- ==== Proof.Final.lean ====
module

public import proofs.«01_k».proof.Proof.Host
public import proofs.«01_k».proof.Proof.Arrays0
public import proofs.«01_k».proof.Proof.Arrays1
public import proofs.«01_k».proof.Proof.Arrays2

@[expose] public section

/-! The five results of the kernel as functions of its arguments. -/

set_option maxRecDepth 16384

noncomputable section

namespace Cert.KernelIdeal.Blk

open Idealize.ShloMosaic Idealize.ShloMosaic.TcCoe Idealize.SL.Sem Facts₀ Facts Cert.Quant Gen

/-- Group `n` of a column after each block of 64 tokens is multiplied by the rotation `H`. -/
def hR (H : Fin 64 → Fin 64 → EReal) (v : Fin 768 → EReal) (n : Fin 24) (k : Fin 32) : EReal :=
  ∑ j : Fin 64, H ⟨32 * (n.val % 2) + k.val, by omega⟩ j * v ⟨64 * (n.val / 2) + j.val, by omega⟩

/-- The rows of the kernel's matrix in its own order give the groups in token order. -/
theorem gR_ord (H : Fin 64 → Fin 64 → EReal) (v : Fin 768 → EReal) (n : Fin 24) :
    gR (fun a b => H (ord a) b) v n = hR H v n := by
  funext k
  unfold gR hR
  simp only [ord_row]

/-- The matrix of zeros and ones picks the token itself. -/
theorem gR_perm (v : Fin 768 → EReal) (n : Fin 24) :
    gR (fun a b => if ord a = b then (1 : EReal) else 0) v n = fun k => v ⟨32 * n.val + k.val, by omega⟩ := by
  funext k
  unfold gR
  rw [sum_perm _ fun j => v ⟨64 * (n.val / 2) + j.val, by omega⟩]
  congr 1
  apply Fin.ext
  rw [ord_row]
  dsimp only
  omega

/-- The groups of the rotated activation, in terms of the arguments. -/
def GX (a0 a1 : Vec Ideal S2x768x7168 .bf16) (s : FVec Ideal S64 .f32) : Groups 7168 := fun b c n =>
  hR (fun i j => rot s (ix2 i j)) (fun t => act (a0 (ix3 b t c)) (a1 (ix3 b t c))) n

/-- The groups of the rotated gradient, in terms of the arguments. -/
def GY (a2 : Vec Ideal S2x768x18432 .bf16) (s : FVec Ideal S64 .f32) : Groups 18432 := fun b c n =>
  hR (fun i j => rot s (ix2 i j)) (fun t => a2 (ix3 b t c)) n

/-- The random numbers of the activation's groups. -/
def NX (a4 : Vec Ideal S2x768x7168 .i8) : Groups 7168 := fun b c n k => num (a4 (ix3 b ⟨32 * n.val + k.val, by omega⟩ c))

/-- The random numbers of the gradient's groups. -/
def NY (a5 : Vec Ideal S2x768x18432 .i8) : Groups 18432 := fun b c n k => num (a5 (ix3 b ⟨32 * n.val + k.val, by omega⟩ c))

variable (m : (ℓ : Loc nD τ sig) → Buf (Elt Ideal) ℓ) (ρ : Dev nD → PrngReg) (c : Dev nD)

theorem GG0_eq : GG0 (V1 m ρ) c = GX (m ((c : Thread nD τ).loc main_arg0)) (m ((c : Thread nD τ).loc main_arg1)) (m ((c : Thread nD τ).loc main_arg3)) := by
  funext b c' n
  unfold GG0 GX gAct
  rw [← gR_ord]
  simp only [V1, W1_args m ρ c main_arg0 (by decide), W1_args m ρ c main_arg1 (by decide)]
  exact congrArg (fun M => gR M _ n) (funext fun a => funext fun b => v28_at m ρ c a b)

theorem NN0_eq : NN0 (V1 m ρ) c = NX (m ((c : Thread nD τ).loc main_arg4)) := by
  funext b c' n
  unfold NN0 NX gNum
  simp only [V1, W1_args m ρ c main_arg4 (by decide)]
  exact (congrArg (fun M => gR M _ n) (funext fun a => funext fun b => v34_at m ρ c a b)).trans (gR_perm _ n)

theorem w2_v28 : W2 m ρ c (Proc.devRef .tc main_v28) = W1 m ρ c (Proc.devRef .tc main_v28) := W2_of m ρ c main_v28 (by decide +kernel)
theorem w2_v34 : W2 m ρ c (Proc.devRef .tc main_v34) = W1 m ρ c (Proc.devRef .tc main_v34) := W2_of m ρ c main_v34 (by decide +kernel)

theorem GG1_eq : GG1 (V2 m ρ) c = GY (m ((c : Thread nD τ).loc main_arg2)) (m ((c : Thread nD τ).loc main_arg3)) := by
  funext b c' n
  unfold GG1 GY gOne
  rw [← gR_ord]
  simp only [V2, W2_args m ρ c main_arg2 (by decide)]
  exact congrArg (fun M => gR M _ n) (funext fun a => funext fun b => (congrFun (w2_v28 m ρ c) (ix2 a b)).trans (v28_at m ρ c a b))

theorem NN1_eq : NN1 (V2 m ρ) c = NY (m ((c : Thread nD τ).loc main_arg5)) := by
  funext b c' n
  unfold NN1 NY gNum
  simp only [V2, W2_args m ρ c main_arg5 (by decide)]
  exact (congrArg (fun M => gR M _ n) (funext fun a => funext fun b => (congrFun (w2_v34 m ρ c) (ix2 a b)).trans (v34_at m ρ c a b))).trans (gR_perm _ n)

/-- The groups and the random numbers of the launched arguments. -/
abbrev gx : Groups 7168 := GX (m ((c : Thread nD τ).loc main_arg0)) (m ((c : Thread nD τ).loc main_arg1)) (m ((c : Thread nD τ).loc main_arg3))
abbrev gy : Groups 18432 := GY (m ((c : Thread nD τ).loc main_arg2)) (m ((c : Thread nD τ).loc main_arg3))
abbrev nx : Groups 7168 := NX (m ((c : Thread nD τ).loc main_arg4))
abbrev ny : Groups 18432 := NY (m ((c : Thread nD τ).loc main_arg5))

theorem w2_codes : W2 m ρ c (Proc.devRef .tc main_v35_0) = (fun i : S2x384x7168.Idx => kCodes (gx m c) (nx m c) (i 0) (i 1) (i 2) : Vec Ideal S2x384x7168 .i8) := by
  have h := (W2_arr m ρ c 5).trans (arr0_5 (V1 m ρ) c)
  rw [GG0_eq m ρ c, NN0_eq m ρ c] at h
  exact h

theorem w2_scales : W2 m ρ c (Proc.devRef .tc main_v35_1) = (fun i : S2x24x7168.Idx => kScales (gx m c) (i 0) (i 1) (i 2) : Vec Ideal S2x24x7168 .i8) := by
  have h := (W2_arr m ρ c 6).trans (arr0_6 (V1 m ρ) c)
  rw [GG0_eq m ρ c] at h
  exact h

theorem w2_vals : W2 m ρ c (Proc.devRef .tc main_v35_2) = (fun i : S2x768x7168.Idx => kVals (gx m c) (nx m c) (i 0) (i 1) (i 2) : Vec Ideal S2x768x7168 .bf16) := by
  have h := (W2_arr m ρ c 7).trans (arr0_7 (V1 m ρ) c)
  rw [GG0_eq m ρ c, NN0_eq m ρ c] at h
  exact h

theorem w3_codes : W3 m ρ c (Proc.devRef .tc main_v36_0) = (fun i : S2x384x18432.Idx => kCodes (gy m c) (ny m c) (i 0) (i 1) (i 2) : Vec Ideal S2x384x18432 .i8) := by
  have h := (W3_arr m ρ c 4).trans (arr1_4 (V2 m ρ) c)
  rw [GG1_eq m ρ c, NN1_eq m ρ c] at h
  exact h

theorem w3_scales : W3 m ρ c (Proc.devRef .tc main_v36_1) = (fun i : S2x24x18432.Idx => kScales (gy m c) (i 0) (i 1) (i 2) : Vec Ideal S2x24x18432 .i8) := by
  have h := (W3_arr m ρ c 5).trans (arr1_5 (V2 m ρ) c)
  rw [GG1_eq m ρ c] at h
  exact h

theorem w3_vals : W3 m ρ c (Proc.devRef .tc main_v36_2) = (fun i : S2x768x18432.Idx => kVals (gy m c) (ny m c) (i 0) (i 1) (i 2) : Vec Ideal S2x768x18432 .bf16) := by
  have h := (W3_arr m ρ c 6).trans (arr1_6 (V2 m ρ) c)
  rw [GG1_eq m ρ c, NN1_eq m ρ c] at h
  exact h

/-- An array no later step writes ends as it was left. -/
theorem w5_of_w3 (r : Ref sig .tc) (h2 : ∀ w : Fin cfg2.W, Pipeline.arrRef spec2 w = r → (cfg2.win w).isOut = false) (hh : r ∉ hostOps2_W) :
    W5 m ρ c (Proc.devRef .tc r) = W3 m ρ c (Proc.devRef .tc r) := (W5_of m ρ c r h2).trans (W4_of m ρ c r hh)

theorem w5_of_w2 (r : Ref sig .tc) (h2 : ∀ w : Fin cfg2.W, Pipeline.arrRef spec2 w = r → (cfg2.win w).isOut = false) (hh : r ∉ hostOps2_W)
    (h1 : ∀ w : Fin cfg1.W, Pipeline.arrRef spec1 w = r → (cfg1.win w).isOut = false) :
    W5 m ρ c (Proc.devRef .tc r) = W2 m ρ c (Proc.devRef .tc r) := (w5_of_w3 m ρ c r h2 hh).trans (W3_of m ρ c r h1)

/-- The codes of the activation. -/
theorem res_x_codes : W5 m ρ c (Proc.devRef .tc main_v35_0) = (fun i : S2x384x7168.Idx => kCodes (gx m c) (nx m c) (i 0) (i 1) (i 2) : Vec Ideal S2x384x7168 .i8) :=
  (w5_of_w2 m ρ c main_v35_0 (by decide +kernel) (by decide +kernel) (by decide +kernel)).trans (w2_codes m ρ c)

/-- The scales of the activation. -/
theorem res_x_scales : W5 m ρ c (Proc.devRef .tc main_v35_1) = (fun i : S2x24x7168.Idx => kScales (gx m c) (i 0) (i 1) (i 2) : Vec Ideal S2x24x7168 .i8) :=
  (w5_of_w2 m ρ c main_v35_1 (by decide +kernel) (by decide +kernel) (by decide +kernel)).trans (w2_scales m ρ c)

/-- The codes of the gradient. -/
theorem res_y_codes : W5 m ρ c (Proc.devRef .tc main_v36_0) = (fun i : S2x384x18432.Idx => kCodes (gy m c) (ny m c) (i 0) (i 1) (i 2) : Vec Ideal S2x384x18432 .i8) :=
  (w5_of_w3 m ρ c main_v36_0 (by decide +kernel) (by decide +kernel)).trans (w3_codes m ρ c)

/-- The scales of the gradient. -/
theorem res_y_scales : W5 m ρ c (Proc.devRef .tc main_v36_1) = (fun i : S2x24x18432.Idx => kScales (gy m c) (i 0) (i 1) (i 2) : Vec Ideal S2x24x18432 .i8) :=
  (w5_of_w3 m ρ c main_v36_1 (by decide +kernel) (by decide +kernel)).trans (w3_scales m ρ c)

theorem v37_eq : (W4 m ρ c (Proc.devRef .tc main_v37) : Vec Ideal S1536x18432 .bf16)
    = shapeCast S1536x18432 (W3 m ρ c (Proc.devRef .tc main_v36_2) : Vec Ideal S2x768x18432 .bf16) Gen.shapeCasts_S2x768x18432_S1536x18432 := by
  unfold W4 hostOps2
  after_results
  rfl

theorem v38_eq : (W4 m ρ c (Proc.devRef .tc main_v38) : Vec Ideal S1536x7168 .bf16)
    = shapeCast S1536x7168 (W3 m ρ c (Proc.devRef .tc main_v35_2) : Vec Ideal S2x768x7168 .bf16) Gen.shapeCasts_S2x768x7168_S1536x7168 := by
  unfold W4 hostOps2
  after_results
  rfl

theorem v37_at (r : Fin 1536) (p : Fin 18432) : (W4 m ρ c (Proc.devRef .tc main_v37) : Vec Ideal S1536x18432 .bf16) (ix2 r p)
    = kVals (gy m c) (ny m c) ⟨r.val / 768, by omega⟩ ⟨r.val % 768, by omega⟩ p := by
  rw [v37_eq, w3_vals]
  pointwise!

theorem v38_at (r : Fin 1536) (p : Fin 7168) : (W4 m ρ c (Proc.devRef .tc main_v38) : Vec Ideal S1536x7168 .bf16) (ix2 r p)
    = kVals (gx m c) (nx m c) ⟨r.val / 768, by omega⟩ ⟨r.val % 768, by omega⟩ p := by
  rw [v38_eq, W3_of m ρ c main_v35_2 (by decide +kernel), w2_vals]
  pointwise!

/-- The weight gradient. -/
theorem res_dw : W5 m ρ c (Proc.devRef .tc main_v39) = (fun i : S18432x7168.Idx =>
    ∑ r : Fin 1536, kVals (gy m c) (ny m c) ⟨r.val / 768, by omega⟩ ⟨r.val % 768, by omega⟩ (i 0)
      * kVals (gx m c) (nx m c) ⟨r.val / 768, by omega⟩ ⟨r.val % 768, by omega⟩ (i 1) : Vec Ideal S18432x7168 .f32) := by
  refine (W5_arr m ρ c 2).trans ((arr2_2 (V4 m ρ) c).trans ?_)
  funext i
  unfold prod
  refine Finset.sum_congr rfl fun r _ => ?_
  exact congrArg₂ (fun x y : EReal => x * y) (v37_at m ρ c r (i 0)) (v38_at m ρ c r (i 1))

end Cert.KernelIdeal.Blk
-- ==== Proof.RefVec.lean ====
module

public import proofs.«01_k».proof.Proof.Final

@[expose] public section

/-! Each step of the reference read at one entry, over arrays of any shape. -/

set_option maxRecDepth 16384

noncomputable section

namespace Cert.RefVec

open Idealize.ShloMosaic Idealize.SL.Sem Cert.Quant Cert.KernelIdeal.Blk

variable {s : Shape} (h : (⟨0, ![]⟩ : Shape).BroadcastsInDim s (![] : Fin 0 → Fin s.rank))

/-- A constant at every entry. -/
abbrev cst (b : BitVec 32) : FVec Ideal s .f32 := broadcastInDim s ![] h (constant (F := Ideal) ⟨0, ![]⟩ .f32 b)

/-- An integer constant at every entry. -/
abbrev cstI (b : BitVec 32) : IVec s 32 := broadcastInDim s ![] h (constantI ⟨0, ![]⟩ 32 b)

/-- The activation: `logistic` is 1 / (1 + exp (-x)). -/
theorem act_at (g u : FVec Ideal s .bf16) (w : FTy.bits .bf16 < FTy.bits .f32) (i : s.Idx) :
    (extf .f32 (truncf .bf16 (mulf (mulf (extf .f32 g w) (Host.divf (cst h 0x3F800000#32)
      (addf (cst h 0x3F800000#32) (Host.exp (Host.negf (extf .f32 g w)))))) (extf .f32 u w)) w) w : FVec Ideal s .f32) i
      = act (g i) (u i) := by
  show g i * Ideal.div (lit 0x3F800000#32) (lit 0x3F800000#32 + Ideal.exp (-(g i))) * u i = _
  unfold act Ideal.logistic
  rw [lit_one]
  rfl

/-- The exponent. -/
theorem expo_at (z : FVec Ideal s .f32) (i : s.Idx) :
    (select (cmpf .olt z (cst h 0x00800000#32)) (broadcastInDim s ![] h (id (constant (F := Ideal) ⟨0, ![]⟩ .f32 0x00000000#32)))
      (minimumf (addf (Host.floor (Host.divf (Host.log z) (Host.log (cst h 0x40000000#32)))) (cst h 0x3F800000#32)) (cst h 0x42FC0000#32)) : FVec Ideal s .f32) i
      = rE (z i) := rfl

/-- The magnitude. -/
theorem mag_at (z : FVec Ideal s .f32) (i : s.Idx) : (Host.absf z : FVec Ideal s .f32) i = mag (z i) := rfl

/-- The step. -/
theorem step_at (t : FVec Ideal s .f32) (i : s.Idx) :
    (id (select (cmpf .olt t (cst h 0x40000000#32)) (cst h 0x3F000000#32)
      (select (cmpf .olt t (cst h 0x40800000#32)) (cst h 0x3F800000#32) (cst h 0x40000000#32))) : FVec Ideal s .f32) i
      = pick3 (t i) 0x3F000000#32 0x3F800000#32 0x40000000#32 := rfl

/-- The rounding, from the magnitude, the step, the quotient and its floor. -/
theorem round_at (d : FVec Ideal s .f32) (u f r : FVec Ideal s .f32) (i : s.Idx) :
    (minimumf (mulf (addf f (uitofp .f32 (cmpf .olt (Host.divf (addf r (cst h 0x3F000000#32)) (cst h 0x43800000#32)) (subf u f)))) d) (cst h 0x40C00000#32) : FVec Ideal s .f32) i
      = min ((f i + ((((Ideal.cmp .olt (Ideal.div (r i + lit 0x3F000000#32) (lit 0x43800000#32)) (u i - f i)).toNat : ℝ) : EReal))) * d i) (lit 0x40C00000#32) := rfl

theorem quot_at (t d : FVec Ideal s .f32) (i : s.Idx) : (Host.divf t d : FVec Ideal s .f32) i = Ideal.div (t i) (d i) := rfl

theorem floor_at (u : FVec Ideal s .f32) (i : s.Idx) : (Host.floor u : FVec Ideal s .f32) i = Ideal.liftRound Int.floor (u i) := rfl

/-- The code. -/
theorem code_at (q y : FVec Ideal s .f32) (w : 1 < 32) (i : s.Idx) :
    (ori (fptosi 32 (select (cmpf .olt q (cst h 0x40000000#32)) (mulf (cst h 0x40000000#32) q)
        (select (cmpf .olt q (cst h 0x40800000#32)) (addf q (cst h 0x40000000#32)) (addf (Host.divf q (cst h 0x40000000#32)) (cst h 0x40800000#32)))))
      (Host.shli (extui 32 (andi (cmpf .olt y (cst h 0x00000000#32)) (cmpf .ogt q (cst h 0x00000000#32))) w) (cstI h 3#32)) : IVec s 32) i
      = rCode (q i) (sNeg (y i) (q i)) := rfl

/-- The byte of an exponent. -/
theorem scale_at (e : FVec Ideal s .f32) (w : 8 < 32) (i : s.Idx) :
    (trunci 8 (addi (fptosi 32 e) (cstI h 127#32)) w : IVec s 8) i = rScale (e i) := rfl

/-- Two codes in one byte. -/
theorem pack_at (a b : IVec s 32) (w : 8 < 32) (i : s.Idx) :
    (trunci 8 (ori a (Host.shli b (cstI h 4#32))) w : IVec s 8) i = pack (a i) (b i) := rfl

/-- The magnitude of a code. -/
theorem dmag_at (f : IVec s 32) (i : s.Idx) :
    (select (cmpi .ne (andi f (cstI h 4#32)) (cstI h 0#32))
      (select (cmpi .ne (andi f (cstI h 2#32)) (cstI h 0#32))
        (select (cmpi .ne (andi f (cstI h 1#32)) (cstI h 0#32)) (cst h 0x40C00000#32) (cst h 0x40800000#32))
        (select (cmpi .ne (andi f (cstI h 1#32)) (cstI h 0#32)) (cst h 0x40400000#32) (cst h 0x40000000#32)))
      (select (cmpi .ne (andi f (cstI h 2#32)) (cstI h 0#32))
        (select (cmpi .ne (andi f (cstI h 1#32)) (cstI h 0#32)) (cst h 0x3FC00000#32) (cst h 0x3F800000#32))
        (select (cmpi .ne (andi f (cstI h 1#32)) (cstI h 0#32)) (cst h 0x3F000000#32) (cst h 0x00000000#32))) : FVec Ideal s .f32) i
      = rMag (f i) := rfl

/-- The value of a code, from its magnitude. -/
theorem dval_at (f : IVec s 32) (g : FVec Ideal s .f32) (w : FTy.bits .bf16 < FTy.bits .f32) (i : s.Idx) :
    (truncf .bf16 (id (select (cmpi .ne (andi f (cstI h 8#32)) (cstI h 0#32)) (Host.negf g) g)) w : FVec Ideal s .bf16) i
      = Scalar.select (bit (f i) 8#32) (-g i) (g i) := rfl

/-- The scale factor of a byte. -/
theorem up_at (b : IVec s 8) (w : 8 < 32) (v : FTy.bits .bf16 < FTy.bits .f32) (i : s.Idx) :
    (truncf .bf16 (Host.powf (cst h 0x40000000#32) (sitofp .f32 (subi (extui 32 b w) (cstI h 127#32)))) v : FVec Ideal s .bf16) i
      = rUp (b i) := rfl

/-- The rounding, entry by entry. -/
theorem round_of {q d u f r y w : EReal}
    (hq : q = min ((f + ((((Ideal.cmp .olt (Ideal.div (r + lit 0x3F000000#32) (lit 0x43800000#32)) (u - f)).toNat : ℝ) : EReal))) * d) (lit 0x40C00000#32))
    (hd : d = pick3 (mag y) 0x3F000000#32 0x3F800000#32 0x40000000#32)
    (hu : u = Ideal.div (mag y) (pick3 (mag y) 0x3F000000#32 0x3F800000#32 0x40000000#32))
    (hf : f = Ideal.liftRound Int.floor (Ideal.div (mag y) (pick3 (mag y) 0x3F000000#32 0x3F800000#32 0x40000000#32)))
    (hr : r = w) : q = rQ y w := by
  subst hr hd hu hf
  exact hq

/-- A sixth of the largest magnitude is not negative. -/
theorem sixth_nonneg (G : Fin 32 → EReal) : 0 ≤ gMax G * lit 0x3E2AAAAB#32 :=
  EReal.mul_nonneg ((mag_nonneg (G 0)).trans ((Finset.le_fold_max _).2 (.inr ⟨0, Finset.mem_univ _, le_rfl⟩))) lit_sixth

/-- A group's code, decoded and scaled back up, is the kernel's value. -/
theorem dec_group (G N : Fin 32 → EReal) (t : Fin 16) (n : Fin 2) :
    Scalar.select (bit (half (gPack G N t) (![0#32, 4#32] n)) 8#32) (-rMag (half (gPack G N t) (![0#32, 4#32] n)))
        (rMag (half (gPack G N t) (![0#32, 4#32] n))) * rUp (sScale (gE G))
      = gVal G N ⟨2 * t.val + n.val, by omega⟩ := by
  match n with
  | 0 => exact dec_lo _ _ _ _ _
  | 1 => exact dec_hi _ _ _ _ _

end Cert.RefVec
-- ==== Proof.RefLayX.lean ====
module

public import proofs.«01_k».proof.Proof.RefVec
public import proofs.«01_k».proof.Proof.Gen.ReferenceIdeal.Run

@[expose] public section

/-! The layout steps of the reference on the activation, entry by entry, over arrays left open. -/

set_option maxRecDepth 16384

noncomputable section

namespace Cert.ReferenceIdeal.Value

open Idealize.ShloMosaic Idealize.SL.Sem Facts₀ Facts Cert.Quant Cert.KernelIdeal.Blk Cert.RefVec

/-- The rotation in blocks of sixty-four tokens. -/
theorem lay_rotX (x : FVec Ideal S2x768x7168 .f32) (h : FVec Ideal S64x64 .f32) (b : Fin 2) (n : Fin 24) (k : Fin 32) (c : Fin 7168) :
    (shapeCast _ (shapeCast _ (transpose S2x12x64x7168 [0, 1, 3, 2] (Host.dotGeneral dot_S2x12x64x7168_S64x64_S2x12x7168x64_2_1_013_0_n_n (some .fp32) (shapeCast _ x shapeCasts_S2x768x7168_S2x12x64x7168) h) transposes_S2x12x7168x64_S2x12x64x7168_0_1_3_2) shapeCasts_S2x12x64x7168_S2x768x7168) shapeCasts_S2x768x7168_S2x24x32x7168 : FVec Ideal S2x24x32x7168 .f32) (ix4 b n k c)
      = hR (fun i j => h (ix2 i j)) (fun t => x (ix3 b t c)) n k := by
  unfold hR
  have e1 : ∀ j : Fin 64, (⟨n.val / 2 * 64 + j.val, by omega⟩ : Fin 768) = ⟨64 * (n.val / 2) + j.val, by omega⟩ := fun j => Fin.ext (by dsimp only; omega)
  have e2 : (⟨n.val % 2 * 32 + k.val, by omega⟩ : Fin 64) = ⟨32 * (n.val % 2) + k.val, by omega⟩ := Fin.ext (by dsimp only; omega)
  pointwise
  refine Finset.sum_congr rfl fun j _ => (mul_comm _ _).trans ?_
  rw [← e1, ← e2]

/-- The largest entry of a group. -/
theorem lay_redX (x : FVec Ideal S2x24x32x7168 .f32) (b : Fin 2) (n : Fin 24) (c : Fin 7168) :
    (Host.reduce FloatOps.maximumf x (constant S_ .f32 0xFF800000#32) reducesTo_S2x24x32x7168_S2x24x7168_d2 h_S_ : FVec Ideal S2x24x7168 .f32) (ix3 b n c)
      = Finset.univ.fold max (lit 0xFF800000#32) fun k : Fin 32 => x (ix4 b n k c) := by
  pointwise

/-- The largest entries times a constant, with an axis of one. -/
theorem lay_sixX (z : FVec Ideal S2x24x7168 .f32) (b : Fin 2) (n : Fin 24) (c : Fin 7168) :
    (mulf (broadcastInDim S2x24x1x7168 ![0, 1, 3] bcast_S2x24x7168_S2x24x1x7168_0_1_3 z) (broadcastInDim S2x24x1x7168 ![] bcast_S_S2x24x1x7168 (constant S_ .f32 0x3E2AAAAB#32)) : FVec Ideal S2x24x1x7168 .f32) (ix4 b n 0 c)
      = z (ix3 b n c) * lit 0x3E2AAAAB#32 := by
  pointwise!

/-- The scaling by the power of two of a group's exponent. -/
theorem lay_sclX (x : FVec Ideal S2x24x32x7168 .f32) (e : FVec Ideal S2x24x1x7168 .f32) (b : Fin 2) (n : Fin 24) (k : Fin 32) (c : Fin 7168) :
    (mulf x (broadcastInDim S2x24x32x7168 ![0, 1, 2, 3] bcast_S2x24x1x7168_S2x24x32x7168_0_1_2_3 (Host.powf (broadcastInDim S2x24x1x7168 ![] bcast_S_S2x24x1x7168 (constant S_ .f32 0x40000000#32)) (Host.negf e))) : FVec Ideal S2x24x32x7168 .f32) (ix4 b n k c)
      = x (ix4 b n k c) * Ideal.pow (lit 0x40000000#32) (-(e (ix4 b n 0 c))) := by
  pointwise!

/-- The random bytes by group. -/
theorem lay_rndX (x : IVec S2x768x7168 8) (b : Fin 2) (n : Fin 24) (k : Fin 32) (c : Fin 7168) :
    (shapeCast _ x shapeCasts_S2x768x7168_S2x24x32x7168 : IVec S2x24x32x7168 8) (ix4 b n k c) = x (ix3 b ⟨32 * n.val + k.val, by omega⟩ c) := by
  have e : (⟨n.val * 32 + k.val, by omega⟩ : Fin 768) = ⟨32 * n.val + k.val, by omega⟩ := Fin.ext (by dsimp only; omega)
  pointwise
  rw [← e]

/-- The codes by pairs. -/
theorem lay_pairX (x : IVec S2x24x32x7168 32) (b : Fin 2) (p : Fin 384) (h : Fin 2) (c : Fin 7168) :
    (shapeCast _ x shapeCasts_S2x24x32x7168_S2x384x2x7168 : IVec S2x384x2x7168 32) (ix4 b p h c)
      = x (ix4 b ⟨p.val / 16, by omega⟩ ⟨2 * (p.val % 16) + h.val, by omega⟩ c) := by
  have e : (⟨p.val % 16 * 2 + h.val, by omega⟩ : Fin 32) = ⟨2 * (p.val % 16) + h.val, by omega⟩ := Fin.ext (by dsimp only; omega)
  pointwise
  rw [← e]

/-- The first code of a pair. -/
theorem lay_fstX (x : IVec S2x384x2x7168 32) (b : Fin 2) (p : Fin 384) (c : Fin 7168) :
    (shapeCast _ (extractStridedSlice S2x384x1x7168 ![0, 0, 0, 0] x slices_S2x384x2x7168_S2x384x1x7168_0_0_0_0) shapeCasts_S2x384x1x7168_S2x384x7168 : IVec S2x384x7168 32) (ix3 b p c)
      = x (ix4 b p 0 c) := by
  pointwise!

/-- The second code of a pair. -/
theorem lay_sndX (x : IVec S2x384x2x7168 32) (b : Fin 2) (p : Fin 384) (c : Fin 7168) :
    (shapeCast _ (extractStridedSlice S2x384x1x7168 ![0, 0, 1, 0] x slices_S2x384x2x7168_S2x384x1x7168_0_0_1_0) shapeCasts_S2x384x1x7168_S2x384x7168 : IVec S2x384x7168 32) (ix3 b p c)
      = x (ix4 b p 1 c) := by
  pointwise!

/-- The exponents without their axis of one. -/
theorem lay_expX (x : FVec Ideal S2x24x1x7168 .f32) (b : Fin 2) (n : Fin 24) (c : Fin 7168) :
    (shapeCast _ x shapeCasts_S2x24x1x7168_S2x24x7168 : FVec Ideal S2x24x7168 .f32) (ix3 b n c) = x (ix4 b n 0 c) := by
  pointwise!

/-- The two shifts. -/
theorem lay_shiftX (n b : Fin 2) (j : Fin 384) (c : Fin 7168) :
    (broadcastInDim S2x2x384x7168 ![0, 1, 2, 3] bcast_S2x1x1x1_S2x2x384x7168_0_1_2_3 (broadcastInDim S2x1x1x1 ![0] bcast_S2_S2x1x1x1_0 ((fun i => lit0 (S2.rowMajor i)))) : IVec S2x2x384x7168 32) (ix4 n b j c)
      = ![0#32, 4#32] n := by
  match n with
  | 0 => rfl
  | 1 => rfl

/-- The halves of the bytes. -/
theorem lay_halfX (x : IVec S2x384x7168 8) (n b : Fin 2) (j : Fin 384) (c : Fin 7168) :
    (andi (Host.shrsi (broadcastInDim S2x2x384x7168 ![0, 1, 2, 3] bcast_S1x2x384x7168_S2x2x384x7168_0_1_2_3 (broadcastInDim S1x2x384x7168 ![1, 2, 3] bcast_S2x384x7168_S1x2x384x7168_1_2_3 (extui 32 x natLt_8_32))) (broadcastInDim S2x2x384x7168 ![0, 1, 2, 3] bcast_S2x1x1x1_S2x2x384x7168_0_1_2_3 (broadcastInDim S2x1x1x1 ![0] bcast_S2_S2x1x1x1_0 ((fun i => lit0 (S2.rowMajor i)))))) (broadcastInDim S2x2x384x7168 ![] bcast_S_S2x2x384x7168 (constantI S_ 32 15#32)) : IVec S2x2x384x7168 32) (ix4 n b j c)
      = half (x (ix3 b j c)) (![0#32, 4#32] n) := by
  rw [← lay_shiftX n b j c]
  generalize (broadcastInDim S2x2x384x7168 ![0, 1, 2, 3] bcast_S2x1x1x1_S2x2x384x7168_0_1_2_3 (broadcastInDim S2x1x1x1 ![0] bcast_S2_S2x1x1x1_0 ((fun i => lit0 (S2.rowMajor i)))) : IVec S2x2x384x7168 32) = w
  unfold half
  pointwise!

/-- The decoded numbers times their groups' scale factors. -/
theorem lay_decX (d : FVec Ideal S2x2x384x7168 .bf16) (u : FVec Ideal S2x24x7168 .bf16) (n b : Fin 2) (j : Fin 384) (c : Fin 7168) :
    (shapeCast _ (mulf (shapeCast _ d shapeCasts_S2x2x384x7168_S2x2x24x16x7168) (broadcastInDim S2x2x24x16x7168 ![0, 1, 2, 3, 4] bcast_S1x2x24x1x7168_S2x2x24x16x7168_0_1_2_3_4 (broadcastInDim S1x2x24x1x7168 ![1, 2, 4] bcast_S2x24x7168_S1x2x24x1x7168_1_2_4 u))) shapeCasts_S2x2x24x16x7168_S2x2x384x7168 : FVec Ideal S2x2x384x7168 .bf16) (ix4 n b j c)
      = d (ix4 n b j c) * u (ix3 b ⟨j.val / 16, by omega⟩ c) := by
  pointwise

end Cert.ReferenceIdeal.Value
-- ==== Proof.RefHad.lean ====
module

public import proofs.«01_k».proof.Proof.Final
public import proofs.«01_k».proof.Proof.Gen.ReferenceIdeal.Run

@[expose] public section

/-! The reference's rotation is the kernel's. -/

set_option maxRecDepth 16384

noncomputable section

namespace Cert.ReferenceIdeal.Value

open Idealize.ShloMosaic Idealize.SL.Sem Facts₀ Facts Cert.Quant Cert.KernelIdeal.Blk

variable (V : Valuation τ sig (Elt Ideal))

/-- The signed Hadamard matrix. -/
theorem rot_had : (res_main_v18 V : FVec Ideal S64x64 .f32) = rot (V (Proc.devRef .tc main_arg3)) := rfl

end Cert.ReferenceIdeal.Value
-- ==== Proof.RefX.lean ====
module

public import proofs.«01_k».proof.Proof.RefLayX
public import proofs.«01_k».proof.Proof.RefHad
public import proofs.«01_k».proof.Proof.Gen.ReferenceIdeal.Run

@[expose] public section

/-! The quantization of the activation in the reference, entry by entry, over the same groups as the kernel's. -/

set_option maxRecDepth 16384

noncomputable section

namespace Cert.ReferenceIdeal.Value

open Idealize.ShloMosaic Idealize.SL.Sem Facts₀ Facts Cert.Quant Cert.KernelIdeal.Blk Cert.RefVec

variable (V : Valuation τ sig (Elt Ideal))

/-- The groups of the activation and their random numbers. -/
abbrev grX : Groups 7168 := GX (V (Proc.devRef .tc main_arg0)) (V (Proc.devRef .tc main_arg1)) (V (Proc.devRef .tc main_arg3))
abbrev nrX : Groups 7168 := NX (V (Proc.devRef .tc main_arg4))

/-- The rotated tokens. -/
theorem rotX (b : Fin 2) (n : Fin 24) (k : Fin 32) (c : Fin 7168) :
    (res_main_v29 V : FVec Ideal S2x24x32x7168 .f32) (ix4 b n k c) = grX V b c n k :=
  (lay_rotX _ _ b n k c).trans (congrArg₂ (fun H v => hR H v n k)
    (congrArg (fun (r : FVec Ideal S64x64 .f32) i j => r (ix2 i j)) (rot_had V))
    (funext fun t => act_at bcast_S_S2x768x7168 (V (Proc.devRef .tc main_arg0)) (V (Proc.devRef .tc main_arg1)) bitsLt_bf16_f32 (ix3 b t c)))

/-- The largest magnitude of a group over six. -/
theorem maxX (b : Fin 2) (n : Fin 24) (c : Fin 7168) :
    (res_main_v35 V : FVec Ideal S2x24x1x7168 .f32) (ix4 b n 0 c) = gMax (grX V b c n) * lit 0x3E2AAAAB#32 :=
  (lay_sixX _ b n c).trans (congrArg (fun z : EReal => z * lit 0x3E2AAAAB#32) ((lay_redX _ b n c).trans
    (congrArg (Finset.univ.fold max (lit 0xFF800000#32)) (funext fun k =>
      (mag_at (res_main_v29 V : FVec Ideal S2x24x32x7168 .f32) _).trans (congrArg mag (rotX V b n k c))))))

/-- The exponent of a group. -/
theorem expX (b : Fin 2) (n : Fin 24) (c : Fin 7168) :
    (res_main_v47 V : FVec Ideal S2x24x1x7168 .f32) (ix4 b n 0 c) = rE (gMax (grX V b c n) * lit 0x3E2AAAAB#32) :=
  (expo_at bcast_S_S2x24x1x7168 (res_main_v35 V : FVec Ideal S2x24x1x7168 .f32) _).trans (congrArg rE (maxX V b n c))

/-- The scaled tokens. -/
theorem sclX (b : Fin 2) (n : Fin 24) (k : Fin 32) (c : Fin 7168) :
    (res_main_v52 V : FVec Ideal S2x24x32x7168 .f32) (ix4 b n k c) = gY (grX V b c n) k :=
  (lay_sclX (res_main_v29 V) (res_main_v47 V) b n k c).trans
    (congrArg₂ (fun x y : EReal => x * y) (rotX V b n k c)
      ((congrArg (fun e : EReal => Ideal.pow (lit 0x40000000#32) (-e)) (expX V b n c)).trans (pow_neg_rE (sixth_nonneg _))))

/-- The magnitude of the scaled tokens. -/
theorem magX (b : Fin 2) (n : Fin 24) (k : Fin 32) (c : Fin 7168) :
    (res_main_v53 V : FVec Ideal S2x24x32x7168 .f32) (ix4 b n k c) = mag (gY (grX V b c n) k) :=
  (mag_at (res_main_v52 V : FVec Ideal S2x24x32x7168 .f32) _).trans (congrArg mag (sclX V b n k c))

/-- The step of the scaled tokens. -/
theorem stpX (b : Fin 2) (n : Fin 24) (k : Fin 32) (c : Fin 7168) :
    (res_main_v60 V : FVec Ideal S2x24x32x7168 .f32) (ix4 b n k c) = pick3 (mag (gY (grX V b c n) k)) 0x3F000000#32 0x3F800000#32 0x40000000#32 :=
  (step_at bcast_S_S2x24x32x7168 (res_main_v53 V : FVec Ideal S2x24x32x7168 .f32) _).trans (congrArg (fun t => pick3 t _ _ _) (magX V b n k c))

/-- The magnitude in steps. -/
theorem quoX (b : Fin 2) (n : Fin 24) (k : Fin 32) (c : Fin 7168) :
    (res_main_v61 V : FVec Ideal S2x24x32x7168 .f32) (ix4 b n k c)
      = Ideal.div (mag (gY (grX V b c n) k)) (pick3 (mag (gY (grX V b c n) k)) 0x3F000000#32 0x3F800000#32 0x40000000#32) :=
  (quot_at (res_main_v53 V : FVec Ideal S2x24x32x7168 .f32) (res_main_v60 V) _).trans (congrArg₂ Ideal.div (magX V b n k c) (stpX V b n k c))

/-- The whole steps. -/
theorem floX (b : Fin 2) (n : Fin 24) (k : Fin 32) (c : Fin 7168) :
    (res_main_v62 V : FVec Ideal S2x24x32x7168 .f32) (ix4 b n k c)
      = Ideal.liftRound Int.floor (Ideal.div (mag (gY (grX V b c n) k)) (pick3 (mag (gY (grX V b c n) k)) 0x3F000000#32 0x3F800000#32 0x40000000#32)) :=
  (floor_at (res_main_v61 V : FVec Ideal S2x24x32x7168 .f32) _).trans (congrArg (Ideal.liftRound Int.floor) (quoX V b n k c))

/-- The rounded magnitudes. -/
theorem rndX (b : Fin 2) (n : Fin 24) (k : Fin 32) (c : Fin 7168) :
    (res_main_v75 V : FVec Ideal S2x24x32x7168 .f32) (ix4 b n k c) = gQ (grX V b c n) (nrX V b c n) k :=
  (round_of (round_at bcast_S_S2x24x32x7168 (res_main_v60 V : FVec Ideal S2x24x32x7168 .f32) (res_main_v61 V) (res_main_v62 V)
      (sitofp .f32 (extui 32 (shapeCast _ (V (Proc.devRef .tc main_arg4)) Gen.shapeCasts_S2x768x7168_S2x24x32x7168) natLt_8_32)) (ix4 b n k c))
    (stpX V b n k c) (quoX V b n k c) (floX V b n k c) (congrArg num (lay_rndX (V (Proc.devRef .tc main_arg4)) b n k c))).trans (rQ_eq _ _)

/-- The codes, by pairs. -/
theorem codX (b : Fin 2) (p : Fin 384) (h : Fin 2) (c : Fin 7168) :
    (res_main_v100 V : IVec S2x384x2x7168 32) (ix4 b p h c)
      = gCode (grX V b c ⟨p.val / 16, by omega⟩) (nrX V b c ⟨p.val / 16, by omega⟩) ⟨2 * (p.val % 16) + h.val, by omega⟩ :=
  (lay_pairX _ b p h c).trans ((code_at bcast_S_S2x24x32x7168 (res_main_v75 V : FVec Ideal S2x24x32x7168 .f32) (res_main_v52 V) natLt_1_32 _).trans
    ((congrArg₂ (fun q y : EReal => rCode q (sNeg y q)) (rndX V b _ _ c) (sclX V b _ _ c)).trans (rCode_eq _ _)))

/-- The bytes of the codes. -/
abbrev bytX : IVec S2x384x7168 8 :=
  trunci 8 (ori (shapeCast _ (extractStridedSlice S2x384x1x7168 ![0, 0, 0, 0] (res_main_v100 V) slices_S2x384x2x7168_S2x384x1x7168_0_0_0_0) Gen.shapeCasts_S2x384x1x7168_S2x384x7168) (Host.shli (shapeCast _ (extractStridedSlice S2x384x1x7168 ![0, 0, 1, 0] (res_main_v100 V) slices_S2x384x2x7168_S2x384x1x7168_0_0_1_0) Gen.shapeCasts_S2x384x1x7168_S2x384x7168) (broadcastInDim S2x384x7168 ![] bcast_S_S2x384x7168 (constantI S_ 32 4#32)))) natLt_8_32

theorem bytX_at (b : Fin 2) (p : Fin 384) (c : Fin 7168) : bytX V (ix3 b p c) = kCodes (grX V) (nrX V) b p c :=
  (pack_at bcast_S_S2x384x7168 _ _ natLt_8_32 _).trans
    (congrArg₂ pack ((lay_fstX _ b p c).trans (codX V b p 0 c)) ((lay_sndX _ b p c).trans (codX V b p 1 c)))

/-- The bytes of the exponents. -/
abbrev scaX : IVec S2x24x7168 8 :=
  trunci 8 (addi (fptosi 32 (shapeCast _ (res_main_v47 V) Gen.shapeCasts_S2x24x1x7168_S2x24x7168 : FVec Ideal S2x24x7168 .f32)) (broadcastInDim S2x24x7168 ![] bcast_S_S2x24x7168 (constantI S_ 32 127#32))) natLt_8_32

theorem scaX_at (b : Fin 2) (n : Fin 24) (c : Fin 7168) : scaX V (ix3 b n c) = kScales (grX V) b n c :=
  (scale_at bcast_S_S2x24x7168 _ natLt_8_32 _).trans
    ((congrArg rScale ((lay_expX _ b n c).trans (expX V b n c))).trans (rScale_eq (sixth_nonneg _)))

/-- The codes taken apart again. -/
theorem hlfX (n b : Fin 2) (j : Fin 384) (c : Fin 7168) :
    (res_main_v219 V : IVec S2x2x384x7168 32) (ix4 n b j c) = half (kCodes (grX V) (nrX V) b j c) (![0#32, 4#32] n) :=
  (lay_halfX (bytX V) n b j c).trans (congrArg (fun x => half x _) (bytX_at V b j c))

/-- The magnitudes of the codes. -/
theorem dmgX (n b : Fin 2) (j : Fin 384) (c : Fin 7168) :
    (res_main_v254 V : FVec Ideal S2x2x384x7168 .f32) (ix4 n b j c) = rMag (half (kCodes (grX V) (nrX V) b j c) (![0#32, 4#32] n)) :=
  (dmag_at bcast_S_S2x2x384x7168 (res_main_v219 V : IVec S2x2x384x7168 32) _).trans (congrArg rMag (hlfX V n b j c))

/-- The decoded numbers. -/
abbrev decX : FVec Ideal S2x2x384x7168 .bf16 :=
  shapeCast _ (mulf (shapeCast _ (truncf .bf16 (id (select (cmpi .ne (andi (res_main_v219 V) (broadcastInDim S2x2x384x7168 ![] bcast_S_S2x2x384x7168 (constantI S_ 32 8#32))) (broadcastInDim S2x2x384x7168 ![] bcast_S_S2x2x384x7168 (constantI S_ 32 0#32))) (Host.negf (res_main_v254 V)) (res_main_v254 V))) bitsLt_bf16_f32) Gen.shapeCasts_S2x2x384x7168_S2x2x24x16x7168) (broadcastInDim S2x2x24x16x7168 ![0, 1, 2, 3, 4] bcast_S1x2x24x1x7168_S2x2x24x16x7168_0_1_2_3_4 (broadcastInDim S1x2x24x1x7168 ![1, 2, 4] bcast_S2x24x7168_S1x2x24x1x7168_1_2_4 (truncf .bf16 (Host.powf (broadcastInDim S2x24x7168 ![] bcast_S_S2x24x7168 (constant S_ .f32 0x40000000#32)) (sitofp .f32 (subi (extui 32 (scaX V) natLt_8_32) (broadcastInDim S2x24x7168 ![] bcast_S_S2x24x7168 (constantI S_ 32 127#32))))) bitsLt_bf16_f32)))) Gen.shapeCasts_S2x2x24x16x7168_S2x2x384x7168

theorem decX_at (n b : Fin 2) (j : Fin 384) (c : Fin 7168) :
    decX V (ix4 n b j c) = gVal (grX V b c ⟨j.val / 16, by omega⟩) (nrX V b c ⟨j.val / 16, by omega⟩) ⟨2 * (j.val % 16) + n.val, by omega⟩ :=
  (lay_decX _ _ n b j c).trans
    ((congrArg₂ (fun x y : EReal => x * y)
      ((dval_at bcast_S_S2x2x384x7168 (res_main_v219 V : IVec S2x2x384x7168 32) (res_main_v254 V) bitsLt_bf16_f32 _).trans
        (congrArg₂ (fun (f : BitVec 32) (g : EReal) => Scalar.select (bit f 8#32) (-g) g) (hlfX V n b j c) (dmgX V n b j c)))
      ((up_at bcast_S_S2x24x7168 (scaX V) natLt_8_32 bitsLt_bf16_f32 _).trans (congrArg rUp (scaX_at V b _ c)))).trans
    (dec_group (grX V b c ⟨j.val / 16, by omega⟩) (nrX V b c ⟨j.val / 16, by omega⟩) ⟨j.val % 16, by omega⟩ n))

end Cert.ReferenceIdeal.Value
-- ==== Proof.RefLayY.lean ====
module

public import proofs.«01_k».proof.Proof.RefVec
public import proofs.«01_k».proof.Proof.Gen.ReferenceIdeal.Run

@[expose] public section

/-! The layout steps of the reference on the gradient, entry by entry, over arrays left open. -/

set_option maxRecDepth 16384

noncomputable section

namespace Cert.ReferenceIdeal.Value

open Idealize.ShloMosaic Idealize.SL.Sem Facts₀ Facts Cert.Quant Cert.KernelIdeal.Blk Cert.RefVec

/-- The rotation in blocks of sixty-four tokens. -/
theorem lay_rotY (x : FVec Ideal S2x768x18432 .f32) (h : FVec Ideal S64x64 .f32) (b : Fin 2) (n : Fin 24) (k : Fin 32) (c : Fin 18432) :
    (shapeCast _ (shapeCast _ (transpose S2x12x64x18432 [0, 1, 3, 2] (Host.dotGeneral dot_S2x12x64x18432_S64x64_S2x12x18432x64_2_1_013_0_n_n (some .fp32) (shapeCast _ x shapeCasts_S2x768x18432_S2x12x64x18432) h) transposes_S2x12x18432x64_S2x12x64x18432_0_1_3_2) shapeCasts_S2x12x64x18432_S2x768x18432) shapeCasts_S2x768x18432_S2x24x32x18432 : FVec Ideal S2x24x32x18432 .f32) (ix4 b n k c)
      = hR (fun i j => h (ix2 i j)) (fun t => x (ix3 b t c)) n k := by
  unfold hR
  have e1 : ∀ j : Fin 64, (⟨n.val / 2 * 64 + j.val, by omega⟩ : Fin 768) = ⟨64 * (n.val / 2) + j.val, by omega⟩ := fun j => Fin.ext (by dsimp only; omega)
  have e2 : (⟨n.val % 2 * 32 + k.val, by omega⟩ : Fin 64) = ⟨32 * (n.val % 2) + k.val, by omega⟩ := Fin.ext (by dsimp only; omega)
  pointwise
  refine Finset.sum_congr rfl fun j _ => (mul_comm _ _).trans ?_
  rw [← e1, ← e2]

/-- The largest entry of a group. -/
theorem lay_redY (x : FVec Ideal S2x24x32x18432 .f32) (b : Fin 2) (n : Fin 24) (c : Fin 18432) :
    (Host.reduce FloatOps.maximumf x (constant S_ .f32 0xFF800000#32) reducesTo_S2x24x32x18432_S2x24x18432_d2 h_S_ : FVec Ideal S2x24x18432 .f32) (ix3 b n c)
      = Finset.univ.fold max (lit 0xFF800000#32) fun k : Fin 32 => x (ix4 b n k c) := by
  pointwise

/-- The largest entries times a constant, with an axis of one. -/
theorem lay_sixY (z : FVec Ideal S2x24x18432 .f32) (b : Fin 2) (n : Fin 24) (c : Fin 18432) :
    (mulf (broadcastInDim S2x24x1x18432 ![0, 1, 3] bcast_S2x24x18432_S2x24x1x18432_0_1_3 z) (broadcastInDim S2x24x1x18432 ![] bcast_S_S2x24x1x18432 (constant S_ .f32 0x3E2AAAAB#32)) : FVec Ideal S2x24x1x18432 .f32) (ix4 b n 0 c)
      = z (ix3 b n c) * lit 0x3E2AAAAB#32 := by
  pointwise!

/-- The scaling by the power of two of a group's exponent. -/
theorem lay_sclY (x : FVec Ideal S2x24x32x18432 .f32) (e : FVec Ideal S2x24x1x18432 .f32) (b : Fin 2) (n : Fin 24) (k : Fin 32) (c : Fin 18432) :
    (mulf x (broadcastInDim S2x24x32x18432 ![0, 1, 2, 3] bcast_S2x24x1x18432_S2x24x32x18432_0_1_2_3 (Host.powf (broadcastInDim S2x24x1x18432 ![] bcast_S_S2x24x1x18432 (constant S_ .f32 0x40000000#32)) (Host.negf e))) : FVec Ideal S2x24x32x18432 .f32) (ix4 b n k c)
      = x (ix4 b n k c) * Ideal.pow (lit 0x40000000#32) (-(e (ix4 b n 0 c))) := by
  pointwise!

/-- The random bytes by group. -/
theorem lay_rndY (x : IVec S2x768x18432 8) (b : Fin 2) (n : Fin 24) (k : Fin 32) (c : Fin 18432) :
    (shapeCast _ x shapeCasts_S2x768x18432_S2x24x32x18432 : IVec S2x24x32x18432 8) (ix4 b n k c) = x (ix3 b ⟨32 * n.val + k.val, by omega⟩ c) := by
  have e : (⟨n.val * 32 + k.val, by omega⟩ : Fin 768) = ⟨32 * n.val + k.val, by omega⟩ := Fin.ext (by dsimp only; omega)
  pointwise
  rw [← e]

/-- The codes by pairs. -/
theorem lay_pairY (x : IVec S2x24x32x18432 32) (b : Fin 2) (p : Fin 384) (h : Fin 2) (c : Fin 18432) :
    (shapeCast _ x shapeCasts_S2x24x32x18432_S2x384x2x18432 : IVec S2x384x2x18432 32) (ix4 b p h c)
      = x (ix4 b ⟨p.val / 16, by omega⟩ ⟨2 * (p.val % 16) + h.val, by omega⟩ c) := by
  have e : (⟨p.val % 16 * 2 + h.val, by omega⟩ : Fin 32) = ⟨2 * (p.val % 16) + h.val, by omega⟩ := Fin.ext (by dsimp only; omega)
  pointwise
  rw [← e]

/-- The first code of a pair. -/
theorem lay_fstY (x : IVec S2x384x2x18432 32) (b : Fin 2) (p : Fin 384) (c : Fin 18432) :
    (shapeCast _ (extractStridedSlice S2x384x1x18432 ![0, 0, 0, 0] x slices_S2x384x2x18432_S2x384x1x18432_0_0_0_0) shapeCasts_S2x384x1x18432_S2x384x18432 : IVec S2x384x18432 32) (ix3 b p c)
      = x (ix4 b p 0 c) := by
  pointwise!

/-- The second code of a pair. -/
theorem lay_sndY (x : IVec S2x384x2x18432 32) (b : Fin 2) (p : Fin 384) (c : Fin 18432) :
    (shapeCast _ (extractStridedSlice S2x384x1x18432 ![0, 0, 1, 0] x slices_S2x384x2x18432_S2x384x1x18432_0_0_1_0) shapeCasts_S2x384x1x18432_S2x384x18432 : IVec S2x384x18432 32) (ix3 b p c)
      = x (ix4 b p 1 c) := by
  pointwise!

/-- The exponents without their axis of one. -/
theorem lay_expY (x : FVec Ideal S2x24x1x18432 .f32) (b : Fin 2) (n : Fin 24) (c : Fin 18432) :
    (shapeCast _ x shapeCasts_S2x24x1x18432_S2x24x18432 : FVec Ideal S2x24x18432 .f32) (ix3 b n c) = x (ix4 b n 0 c) := by
  pointwise!

/-- The two shifts. -/
theorem lay_shiftY (n b : Fin 2) (j : Fin 384) (c : Fin 18432) :
    (broadcastInDim S2x2x384x18432 ![0, 1, 2, 3] bcast_S2x1x1x1_S2x2x384x18432_0_1_2_3 (broadcastInDim S2x1x1x1 ![0] bcast_S2_S2x1x1x1_0 ((fun i => lit1 (S2.rowMajor i)))) : IVec S2x2x384x18432 32) (ix4 n b j c)
      = ![0#32, 4#32] n := by
  match n with
  | 0 => rfl
  | 1 => rfl

/-- The halves of the bytes. -/
theorem lay_halfY (x : IVec S2x384x18432 8) (n b : Fin 2) (j : Fin 384) (c : Fin 18432) :
    (andi (Host.shrsi (broadcastInDim S2x2x384x18432 ![0, 1, 2, 3] bcast_S1x2x384x18432_S2x2x384x18432_0_1_2_3 (broadcastInDim S1x2x384x18432 ![1, 2, 3] bcast_S2x384x18432_S1x2x384x18432_1_2_3 (extui 32 x natLt_8_32))) (broadcastInDim S2x2x384x18432 ![0, 1, 2, 3] bcast_S2x1x1x1_S2x2x384x18432_0_1_2_3 (broadcastInDim S2x1x1x1 ![0] bcast_S2_S2x1x1x1_0 ((fun i => lit1 (S2.rowMajor i)))))) (broadcastInDim S2x2x384x18432 ![] bcast_S_S2x2x384x18432 (constantI S_ 32 15#32)) : IVec S2x2x384x18432 32) (ix4 n b j c)
      = half (x (ix3 b j c)) (![0#32, 4#32] n) := by
  rw [← lay_shiftY n b j c]
  generalize (broadcastInDim S2x2x384x18432 ![0, 1, 2, 3] bcast_S2x1x1x1_S2x2x384x18432_0_1_2_3 (broadcastInDim S2x1x1x1 ![0] bcast_S2_S2x1x1x1_0 ((fun i => lit1 (S2.rowMajor i)))) : IVec S2x2x384x18432 32) = w
  unfold half
  pointwise!

/-- The decoded numbers times their groups' scale factors. -/
theorem lay_decY (d : FVec Ideal S2x2x384x18432 .bf16) (u : FVec Ideal S2x24x18432 .bf16) (n b : Fin 2) (j : Fin 384) (c : Fin 18432) :
    (shapeCast _ (mulf (shapeCast _ d shapeCasts_S2x2x384x18432_S2x2x24x16x18432) (broadcastInDim S2x2x24x16x18432 ![0, 1, 2, 3, 4] bcast_S1x2x24x1x18432_S2x2x24x16x18432_0_1_2_3_4 (broadcastInDim S1x2x24x1x18432 ![1, 2, 4] bcast_S2x24x18432_S1x2x24x1x18432_1_2_4 u))) shapeCasts_S2x2x24x16x18432_S2x2x384x18432 : FVec Ideal S2x2x384x18432 .bf16) (ix4 n b j c)
      = d (ix4 n b j c) * u (ix3 b ⟨j.val / 16, by omega⟩ c) := by
  pointwise

end Cert.ReferenceIdeal.Value
-- ==== Proof.RefY.lean ====
module

public import proofs.«01_k».proof.Proof.RefLayY
public import proofs.«01_k».proof.Proof.RefHad
public import proofs.«01_k».proof.Proof.Gen.ReferenceIdeal.Run

@[expose] public section

/-! The quantization of the gradient in the reference, entry by entry, over the same groups as the kernel's. -/

set_option maxRecDepth 16384

noncomputable section

namespace Cert.ReferenceIdeal.Value

open Idealize.ShloMosaic Idealize.SL.Sem Facts₀ Facts Cert.Quant Cert.KernelIdeal.Blk Cert.RefVec

variable (V : Valuation τ sig (Elt Ideal))

/-- The groups of the gradient and their random numbers. -/
abbrev grY : Groups 18432 := GY (V (Proc.devRef .tc main_arg2)) (V (Proc.devRef .tc main_arg3))
abbrev nrY : Groups 18432 := NY (V (Proc.devRef .tc main_arg5))

/-- The rotated tokens. -/
theorem rotY (b : Fin 2) (n : Fin 24) (k : Fin 32) (c : Fin 18432) :
    (res_main_v119 V : FVec Ideal S2x24x32x18432 .f32) (ix4 b n k c) = grY V b c n k :=
  (lay_rotY (extf .f32 (V (Proc.devRef .tc main_arg2)) bitsLt_bf16_f32) _ b n k c).trans (congrArg (fun H => hR H (fun t => (V (Proc.devRef .tc main_arg2) : FVec Ideal S2x768x18432 .bf16) (ix3 b t c)) n k)
    (congrArg (fun (r : FVec Ideal S64x64 .f32) i j => r (ix2 i j)) (rot_had V)))

/-- The largest magnitude of a group over six. -/
theorem maxY (b : Fin 2) (n : Fin 24) (c : Fin 18432) :
    (res_main_v125 V : FVec Ideal S2x24x1x18432 .f32) (ix4 b n 0 c) = gMax (grY V b c n) * lit 0x3E2AAAAB#32 :=
  (lay_sixY _ b n c).trans (congrArg (fun z : EReal => z * lit 0x3E2AAAAB#32) ((lay_redY _ b n c).trans
    (congrArg (Finset.univ.fold max (lit 0xFF800000#32)) (funext fun k =>
      (mag_at (res_main_v119 V : FVec Ideal S2x24x32x18432 .f32) _).trans (congrArg mag (rotY V b n k c))))))

/-- The exponent of a group. -/
theorem expY (b : Fin 2) (n : Fin 24) (c : Fin 18432) :
    (res_main_v137 V : FVec Ideal S2x24x1x18432 .f32) (ix4 b n 0 c) = rE (gMax (grY V b c n) * lit 0x3E2AAAAB#32) :=
  (expo_at bcast_S_S2x24x1x18432 (res_main_v125 V : FVec Ideal S2x24x1x18432 .f32) _).trans (congrArg rE (maxY V b n c))

/-- The scaled tokens. -/
theorem sclY (b : Fin 2) (n : Fin 24) (k : Fin 32) (c : Fin 18432) :
    (res_main_v142 V : FVec Ideal S2x24x32x18432 .f32) (ix4 b n k c) = gY (grY V b c n) k :=
  (lay_sclY (res_main_v119 V) (res_main_v137 V) b n k c).trans
    (congrArg₂ (fun x y : EReal => x * y) (rotY V b n k c)
      ((congrArg (fun e : EReal => Ideal.pow (lit 0x40000000#32) (-e)) (expY V b n c)).trans (pow_neg_rE (sixth_nonneg _))))

/-- The magnitude of the scaled tokens. -/
theorem magY (b : Fin 2) (n : Fin 24) (k : Fin 32) (c : Fin 18432) :
    (res_main_v143 V : FVec Ideal S2x24x32x18432 .f32) (ix4 b n k c) = mag (gY (grY V b c n) k) :=
  (mag_at (res_main_v142 V : FVec Ideal S2x24x32x18432 .f32) _).trans (congrArg mag (sclY V b n k c))

/-- The step of the scaled tokens. -/
theorem stpY (b : Fin 2) (n : Fin 24) (k : Fin 32) (c : Fin 18432) :
    (res_main_v150 V : FVec Ideal S2x24x32x18432 .f32) (ix4 b n k c) = pick3 (mag (gY (grY V b c n) k)) 0x3F000000#32 0x3F800000#32 0x40000000#32 :=
  (step_at bcast_S_S2x24x32x18432 (res_main_v143 V : FVec Ideal S2x24x32x18432 .f32) _).trans (congrArg (fun t => pick3 t _ _ _) (magY V b n k c))

/-- The magnitude in steps. -/
theorem quoY (b : Fin 2) (n : Fin 24) (k : Fin 32) (c : Fin 18432) :
    (res_main_v151 V : FVec Ideal S2x24x32x18432 .f32) (ix4 b n k c)
      = Ideal.div (mag (gY (grY V b c n) k)) (pick3 (mag (gY (grY V b c n) k)) 0x3F000000#32 0x3F800000#32 0x40000000#32) :=
  (quot_at (res_main_v143 V : FVec Ideal S2x24x32x18432 .f32) (res_main_v150 V) _).trans (congrArg₂ Ideal.div (magY V b n k c) (stpY V b n k c))

/-- The whole steps. -/
theorem floY (b : Fin 2) (n : Fin 24) (k : Fin 32) (c : Fin 18432) :
    (res_main_v152 V : FVec Ideal S2x24x32x18432 .f32) (ix4 b n k c)
      = Ideal.liftRound Int.floor (Ideal.div (mag (gY (grY V b c n) k)) (pick3 (mag (gY (grY V b c n) k)) 0x3F000000#32 0x3F800000#32 0x40000000#32)) :=
  (floor_at (res_main_v151 V : FVec Ideal S2x24x32x18432 .f32) _).trans (congrArg (Ideal.liftRound Int.floor) (quoY V b n k c))

/-- The rounded magnitudes. -/
theorem rndY (b : Fin 2) (n : Fin 24) (k : Fin 32) (c : Fin 18432) :
    (res_main_v165 V : FVec Ideal S2x24x32x18432 .f32) (ix4 b n k c) = gQ (grY V b c n) (nrY V b c n) k :=
  (round_of (round_at bcast_S_S2x24x32x18432 (res_main_v150 V : FVec Ideal S2x24x32x18432 .f32) (res_main_v151 V) (res_main_v152 V)
      (sitofp .f32 (extui 32 (shapeCast _ (V (Proc.devRef .tc main_arg5)) Gen.shapeCasts_S2x768x18432_S2x24x32x18432) natLt_8_32)) (ix4 b n k c))
    (stpY V b n k c) (quoY V b n k c) (floY V b n k c) (congrArg num (lay_rndY (V (Proc.devRef .tc main_arg5)) b n k c))).trans (rQ_eq _ _)

/-- The codes, by pairs. -/
theorem codY (b : Fin 2) (p : Fin 384) (h : Fin 2) (c : Fin 18432) :
    (res_main_v190 V : IVec S2x384x2x18432 32) (ix4 b p h c)
      = gCode (grY V b c ⟨p.val / 16, by omega⟩) (nrY V b c ⟨p.val / 16, by omega⟩) ⟨2 * (p.val % 16) + h.val, by omega⟩ :=
  (lay_pairY _ b p h c).trans ((code_at bcast_S_S2x24x32x18432 (res_main_v165 V : FVec Ideal S2x24x32x18432 .f32) (res_main_v142 V) natLt_1_32 _).trans
    ((congrArg₂ (fun q y : EReal => rCode q (sNeg y q)) (rndY V b _ _ c) (sclY V b _ _ c)).trans (rCode_eq _ _)))

/-- The bytes of the codes. -/
abbrev bytY : IVec S2x384x18432 8 :=
  trunci 8 (ori (shapeCast _ (extractStridedSlice S2x384x1x18432 ![0, 0, 0, 0] (res_main_v190 V) slices_S2x384x2x18432_S2x384x1x18432_0_0_0_0) Gen.shapeCasts_S2x384x1x18432_S2x384x18432) (Host.shli (shapeCast _ (extractStridedSlice S2x384x1x18432 ![0, 0, 1, 0] (res_main_v190 V) slices_S2x384x2x18432_S2x384x1x18432_0_0_1_0) Gen.shapeCasts_S2x384x1x18432_S2x384x18432) (broadcastInDim S2x384x18432 ![] bcast_S_S2x384x18432 (constantI S_ 32 4#32)))) natLt_8_32

theorem bytY_at (b : Fin 2) (p : Fin 384) (c : Fin 18432) : bytY V (ix3 b p c) = kCodes (grY V) (nrY V) b p c :=
  (pack_at bcast_S_S2x384x18432 _ _ natLt_8_32 _).trans
    (congrArg₂ pack ((lay_fstY _ b p c).trans (codY V b p 0 c)) ((lay_sndY _ b p c).trans (codY V b p 1 c)))

/-- The bytes of the exponents. -/
abbrev scaY : IVec S2x24x18432 8 :=
  trunci 8 (addi (fptosi 32 (shapeCast _ (res_main_v137 V) Gen.shapeCasts_S2x24x1x18432_S2x24x18432 : FVec Ideal S2x24x18432 .f32)) (broadcastInDim S2x24x18432 ![] bcast_S_S2x24x18432 (constantI S_ 32 127#32))) natLt_8_32

theorem scaY_at (b : Fin 2) (n : Fin 24) (c : Fin 18432) : scaY V (ix3 b n c) = kScales (grY V) b n c :=
  (scale_at bcast_S_S2x24x18432 _ natLt_8_32 _).trans
    ((congrArg rScale ((lay_expY _ b n c).trans (expY V b n c))).trans (rScale_eq (sixth_nonneg _)))

/-- The codes taken apart again. -/
theorem hlfY (n b : Fin 2) (j : Fin 384) (c : Fin 18432) :
    (res_main_v282 V : IVec S2x2x384x18432 32) (ix4 n b j c) = half (kCodes (grY V) (nrY V) b j c) (![0#32, 4#32] n) :=
  (lay_halfY (bytY V) n b j c).trans (congrArg (fun x => half x _) (bytY_at V b j c))

/-- The magnitudes of the codes. -/
theorem dmgY (n b : Fin 2) (j : Fin 384) (c : Fin 18432) :
    (res_main_v317 V : FVec Ideal S2x2x384x18432 .f32) (ix4 n b j c) = rMag (half (kCodes (grY V) (nrY V) b j c) (![0#32, 4#32] n)) :=
  (dmag_at bcast_S_S2x2x384x18432 (res_main_v282 V : IVec S2x2x384x18432 32) _).trans (congrArg rMag (hlfY V n b j c))

/-- The decoded numbers. -/
abbrev decY : FVec Ideal S2x2x384x18432 .bf16 :=
  shapeCast _ (mulf (shapeCast _ (truncf .bf16 (id (select (cmpi .ne (andi (res_main_v282 V) (broadcastInDim S2x2x384x18432 ![] bcast_S_S2x2x384x18432 (constantI S_ 32 8#32))) (broadcastInDim S2x2x384x18432 ![] bcast_S_S2x2x384x18432 (constantI S_ 32 0#32))) (Host.negf (res_main_v317 V)) (res_main_v317 V))) bitsLt_bf16_f32) Gen.shapeCasts_S2x2x384x18432_S2x2x24x16x18432) (broadcastInDim S2x2x24x16x18432 ![0, 1, 2, 3, 4] bcast_S1x2x24x1x18432_S2x2x24x16x18432_0_1_2_3_4 (broadcastInDim S1x2x24x1x18432 ![1, 2, 4] bcast_S2x24x18432_S1x2x24x1x18432_1_2_4 (truncf .bf16 (Host.powf (broadcastInDim S2x24x18432 ![] bcast_S_S2x24x18432 (constant S_ .f32 0x40000000#32)) (sitofp .f32 (subi (extui 32 (scaY V) natLt_8_32) (broadcastInDim S2x24x18432 ![] bcast_S_S2x24x18432 (constantI S_ 32 127#32))))) bitsLt_bf16_f32)))) Gen.shapeCasts_S2x2x24x16x18432_S2x2x384x18432

theorem decY_at (n b : Fin 2) (j : Fin 384) (c : Fin 18432) :
    decY V (ix4 n b j c) = gVal (grY V b c ⟨j.val / 16, by omega⟩) (nrY V b c ⟨j.val / 16, by omega⟩) ⟨2 * (j.val % 16) + n.val, by omega⟩ :=
  (lay_decY _ _ n b j c).trans
    ((congrArg₂ (fun x y : EReal => x * y)
      ((dval_at bcast_S_S2x2x384x18432 (res_main_v282 V : IVec S2x2x384x18432 32) (res_main_v317 V) bitsLt_bf16_f32 _).trans
        (congrArg₂ (fun (f : BitVec 32) (g : EReal) => Scalar.select (bit f 8#32) (-g) g) (hlfY V n b j c) (dmgY V n b j c)))
      ((up_at bcast_S_S2x24x18432 (scaY V) natLt_8_32 bitsLt_bf16_f32 _).trans (congrArg rUp (scaY_at V b _ c)))).trans
    (dec_group (grY V b c ⟨j.val / 16, by omega⟩) (nrY V b c ⟨j.val / 16, by omega⟩) ⟨j.val % 16, by omega⟩ n))

end Cert.ReferenceIdeal.Value
-- ==== Proof.RefDot.lean ====
module

public import proofs.«01_k».proof.Proof.RefX
public import proofs.«01_k».proof.Proof.RefY

@[expose] public section

/-! The weight gradient of the reference: one product over batch entry, pair of tokens and place in the pair, as
    the sum over the rows in the order the kernel keeps them. -/

set_option maxRecDepth 16384

noncomputable section

namespace Cert.RefVec

open Idealize.ShloMosaic

/-- A contraction index of three axes is the triple of its coordinates. -/
def contrEquiv3 {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

/-- Rows in the kernel's order: batch entry, pair and place in the pair of a row. -/
def rowEquiv : Fin 1536 ≃ Fin 2 × Fin 384 × Fin 2 where
  toFun r := (⟨r.val / 768, by omega⟩, ⟨32 * (r.val % 768 / 64) + r.val % 32, by omega⟩, ⟨r.val % 64 / 32, by omega⟩)
  invFun p := ⟨768 * p.1.val + 64 * (p.2.1.val / 32) + 32 * p.2.2.val + p.2.1.val % 32, by
    have h0 := p.1.isLt
    have h1 := p.2.1.isLt
    have h2 := p.2.2.isLt
    omega⟩
  left_inv r := by
    apply Fin.ext
    dsimp only
    omega
  right_inv p := by
    have h0 := p.1.isLt
    have h1 := p.2.1.isLt
    have h2 := p.2.2.isLt
    refine Prod.ext (Fin.ext ?_) (Prod.ext (Fin.ext ?_) (Fin.ext ?_)) <;> dsimp only <;> omega

end Cert.RefVec

namespace Cert.ReferenceIdeal.Value

open Idealize.ShloMosaic Idealize.SL.Sem Facts₀ Facts Cert.Quant Cert.KernelIdeal.Blk Cert.RefVec

/-- The three contracted axes. -/
abbrev tripleD : dot_S2x2x384x18432_S2x2x384x7168_S18432x7168_120_120_3_3_n_n.contr.Idx ≃ Fin 2 × Fin 384 × Fin 2 :=
  contrEquiv3 dot_S2x2x384x18432_S2x2x384x7168_S18432x7168_120_120_3_3_n_n 2 384 2 rfl rfl rfl rfl

theorem lhs_at (i : S18432x7168.Idx) (p : Fin 2 × Fin 384 × Fin 2) :
    dot_S2x2x384x18432_S2x2x384x7168_S18432x7168_120_120_3_3_n_n.lhsIdx i (tripleD.symm p) = ix4 p.2.2 p.1 p.2.1 (i 0) := by
  funext a
  apply Fin.ext
  fin_cases a <;> rfl

theorem rhs_at (i : S18432x7168.Idx) (p : Fin 2 × Fin 384 × Fin 2) :
    dot_S2x2x384x18432_S2x2x384x7168_S18432x7168_120_120_3_3_n_n.rhsIdx i (tripleD.symm p) = ix4 p.2.2 p.1 p.2.1 (i 1) := by
  funext a
  apply Fin.ext
  fin_cases a <;> rfl

/-- The product at an entry, over arrays left open. -/
theorem dot_at (A : FVec Ideal S2x2x384x18432 .bf16) (B : FVec Ideal S2x2x384x7168 .bf16) (i : S18432x7168.Idx) :
    (Host.dotGeneral dot_S2x2x384x18432_S2x2x384x7168_S18432x7168_120_120_3_3_n_n none A B : FVec Ideal S18432x7168 .f32) i
      = ∑ r : Fin 1536, (A (ix4 (rowEquiv r).2.2 (rowEquiv r).1 (rowEquiv r).2.1 (i 0)) : EReal)
          * B (ix4 (rowEquiv r).2.2 (rowEquiv r).1 (rowEquiv r).2.1 (i 1)) := by
  refine (Ideal.dotGeneral_apply _ _ _ A B i).trans ?_
  refine (Equiv.sum_comp (rowEquiv.trans tripleD.symm) _).symm.trans ?_
  refine Finset.sum_congr rfl fun r _ => ?_
  exact congrArg₂ (fun x y : EReal => x * y) (congrArg A (lhs_at i (rowEquiv r))) (congrArg B (rhs_at i (rowEquiv r)))

/-- The kernel's value at a row is the group's value at the row's pair and place. -/
theorem kVals_row {C : ℕ} (G N : Groups C) (r : Fin 1536) (c : Fin C) :
    kVals G N ⟨r.val / 768, by omega⟩ ⟨r.val % 768, by omega⟩ c
      = gVal (G (rowEquiv r).1 c ⟨(rowEquiv r).2.1.val / 16, by omega⟩) (N (rowEquiv r).1 c ⟨(rowEquiv r).2.1.val / 16, by omega⟩)
          ⟨2 * ((rowEquiv r).2.1.val % 16) + (rowEquiv r).2.2.val, by omega⟩ := by
  have e : ∀ (h₁ : _) (h₂ : _), (⟨2 * (r.val % 768 / 64) + r.val % 768 % 32 / 16, h₁⟩ : Fin 24) = ⟨(32 * (r.val % 768 / 64) + r.val % 32) / 16, h₂⟩ :=
    fun _ _ => Fin.ext (by dsimp only; omega)
  have e' : ∀ (h₁ : _) (h₂ : _), (⟨2 * (r.val % 768 % 16) + r.val % 768 % 64 / 32, h₁⟩ : Fin 32)
      = ⟨2 * ((32 * (r.val % 768 / 64) + r.val % 32) % 16) + r.val % 64 / 32, h₂⟩ :=
    fun _ _ => Fin.ext (by dsimp only; omega)
  unfold kVals
  dsimp only [rowEquiv, Equiv.coe_fn_mk]
  rw [e _ (by omega), e' _ (by omega)]

variable (V : Valuation τ sig (Elt Ideal))

/-- The weight gradient, as the kernel's sum over its rows. -/
theorem dw_eq : (Host.dotGeneral dot_S2x2x384x18432_S2x2x384x7168_S18432x7168_120_120_3_3_n_n none (decY V) (decX V) : FVec Ideal S18432x7168 .f32)
    = fun i : S18432x7168.Idx => ∑ r : Fin 1536, kVals (grY V) (nrY V) ⟨r.val / 768, by omega⟩ ⟨r.val % 768, by omega⟩ (i 0)
        * kVals (grX V) (nrX V) ⟨r.val / 768, by omega⟩ ⟨r.val % 768, by omega⟩ (i 1) := by
  funext i
  refine (dot_at (decY V) (decX V) i).trans (Finset.sum_congr rfl fun r _ => ?_)
  exact congrArg₂ (fun x y : EReal => x * y) ((decY_at V _ _ _ _).trans (kVals_row (grY V) (nrY V) r (i 0)).symm)
    ((decX_at V _ _ _ _).trans (kVals_row (grX V) (nrX V) r (i 1)).symm)

/-- The codes of the activation. -/
theorem x_codes_eq : bytX V = fun i : S2x384x7168.Idx => kCodes (grX V) (nrX V) (i 0) (i 1) (i 2) := by
  funext i
  exact (congrArg (bytX V) (show i = ix3 (i 0) (i 1) (i 2) by blk_ext)).trans (bytX_at V _ _ _)

/-- The scales of the activation. -/
theorem x_scales_eq : scaX V = fun i : S2x24x7168.Idx => kScales (grX V) (i 0) (i 1) (i 2) := by
  funext i
  exact (congrArg (scaX V) (show i = ix3 (i 0) (i 1) (i 2) by blk_ext)).trans (scaX_at V _ _ _)

/-- The codes of the gradient. -/
theorem y_codes_eq : bytY V = fun i : S2x384x18432.Idx => kCodes (grY V) (nrY V) (i 0) (i 1) (i 2) := by
  funext i
  exact (congrArg (bytY V) (show i = ix3 (i 0) (i 1) (i 2) by blk_ext)).trans (bytY_at V _ _ _)

/-- The scales of the gradient. -/
theorem y_scales_eq : scaY V = fun i : S2x24x18432.Idx => kScales (grY V) (i 0) (i 1) (i 2) := by
  funext i
  exact (congrArg (scaY V) (show i = ix3 (i 0) (i 1) (i 2) by blk_ext)).trans (scaY_at V _ _ _)

end Cert.ReferenceIdeal.Value
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelRun
public import proofs.«01_k».proof.Proof.Final
public import proofs.«01_k».proof.Proof.RefDot
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Cert.KernelIdeal.Blk

/-! ## The kernel's run -/

section Kernel
open Cert.KernelIdeal Cert.KernelIdeal.Gen

variable (m : (ℓ : Loc nD τ sig) → Buf (Elt Ideal) ℓ) (ρ : Dev nD → PrngReg)

/-- The weight gradient from the groups of the two operands and their random numbers. -/
abbrev dwOf (Gy Ny : Groups 18432) (Gx Nx : Groups 7168) : Vec Ideal S18432x7168 .f32 := fun i =>
  ∑ r : Fin 1536, kVals Gy Ny ⟨r.val / 768, by omega⟩ ⟨r.val % 768, by omega⟩ (i 0)
    * kVals Gx Nx ⟨r.val / 768, by omega⟩ ⟨r.val % 768, by omega⟩ (i 1)

/-- The packed codes as an array. -/
abbrev codesX (G N : Groups 7168) : Vec Ideal S2x384x7168 .i8 := fun i => kCodes G N (i 0) (i 1) (i 2)
abbrev codesY (G N : Groups 18432) : Vec Ideal S2x384x18432 .i8 := fun i => kCodes G N (i 0) (i 1) (i 2)

/-- The scales as an array. -/
abbrev scalesX (G : Groups 7168) : Vec Ideal S2x24x7168 .i8 := fun i => kScales G (i 0) (i 1) (i 2)
abbrev scalesY (G : Groups 18432) : Vec Ideal S2x24x18432 .i8 := fun i => kScales G (i 0) (i 1) (i 2)

/-- The kernel terminates with its five results at these functions of its arguments, and the arguments unchanged. -/
theorem kernel_run : θ_run defs (onTc (τ := τ) (main (F := Ideal))) ⟨m, fun _ => 0, ρ⟩ (fun r => ∀ c : Dev nD,
      r.2.mem ((c.tc : Thread nD τ).loc main_v39) = dwOf (gy m c) (ny m c) (gx m c) (nx m c)
      ∧ r.2.mem ((c.tc : Thread nD τ).loc main_v35_0) = codesX (gx m c) (nx m c)
      ∧ r.2.mem ((c.tc : Thread nD τ).loc main_v35_1) = scalesX (gx m c)
      ∧ r.2.mem ((c.tc : Thread nD τ).loc main_v36_0) = codesY (gy m c) (ny m c)
      ∧ r.2.mem ((c.tc : Thread nD τ).loc main_v36_1) = scalesY (gy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v39 (by decide))).trans (res_dw m ρ c),
     (h c _ (mem_uc main_v35_0 (by decide))).trans (res_x_codes m ρ c),
     (h c _ (mem_uc main_v35_1 (by decide))).trans (res_x_scales m ρ c),
     (h c _ (mem_uc main_v36_0 (by decide))).trans (res_y_codes m ρ c),
     (h c _ (mem_uc main_v36_1 (by decide))).trans (res_y_scales m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Kernel

/-! ## The reference's run -/

section Reference
open Cert.ReferenceIdeal

variable (m : (ℓ : Loc nD τ sig) → Buf (Elt Ideal) ℓ) (ρ : Dev nD → PrngReg)

/-- The groups and random numbers of the reference's arguments. -/
abbrev rgx (c : Dev nD) : Groups 7168 := GX (m ((c : Thread nD τ).loc main_arg0)) (m ((c : Thread nD τ).loc main_arg1)) (m ((c : Thread nD τ).loc main_arg3))
abbrev rgy (c : Dev nD) : Groups 18432 := GY (m ((c : Thread nD τ).loc main_arg2)) (m ((c : Thread nD τ).loc main_arg3))
abbrev rnx (c : Dev nD) : Groups 7168 := NX (m ((c : Thread nD τ).loc main_arg4))
abbrev rny (c : Dev nD) : Groups 18432 := NY (m ((c : Thread nD τ).loc main_arg5))

/-- The reference terminates with its five results at the same functions of its arguments, and the arguments unchanged. -/
theorem reference_run : θ_run defs (onTc (τ := τ) (main (F := Ideal))) ⟨m, fun _ => 0, ρ⟩ (fun r => ∀ c : Dev nD,
      r.2.mem ((c.tc : Thread nD τ).loc main_v330) = dwOf (rgy m c) (rny m c) (rgx m c) (rnx m c)
      ∧ r.2.mem ((c.tc : Thread nD τ).loc main_v108) = codesX (rgx m c) (rnx m c)
      ∧ r.2.mem ((c.tc : Thread nD τ).loc main_v113) = scalesX (rgx m c)
      ∧ r.2.mem ((c.tc : Thread nD τ).loc main_v198) = codesY (rgy m c) (rny m c)
      ∧ r.2.mem ((c.tc : Thread nD τ).loc main_v203) = scalesY (rgy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨h0, h1, h2, h3, h4, ha⟩ := h c
    exact ⟨h0.trans (Value.dw_eq (StableHlo.launchContents m c)), h1.trans (Value.x_codes_eq (StableHlo.launchContents m c)),
      h2.trans (Value.x_scales_eq (StableHlo.launchContents m c)), h3.trans (Value.y_codes_eq (StableHlo.launchContents m c)),
      h4.trans (Value.y_scales_eq (StableHlo.launchContents m c)), ha⟩) (Value.run m ρ)

end Reference

/-! ## The claims -/

/-- The kernel's and the reference's results are equal over the extended reals. -/
theorem algebraic : Cert.algebraic_KernelIdeal_ReferenceIdeal (hKernelIdeal := Cert.KernelIdeal.Gen.facts)
    (hReferenceIdeal := Cert.ReferenceIdeal.Gen.facts) := by
  intro m g m' g' _ ha
  refine ⟨fun c => dwOf (gy m c) (ny m c) (gx m c) (nx m c), fun c => codesX (gx m c) (nx m c), fun c => scalesX (gx m c),
    fun c => codesY (gy m c) (ny m c), fun c => scalesY (gy m c), kernel_run m g, ?_⟩
  refine (θ_run Cert.ReferenceIdeal.defs _ _).mono (fun r h c => ?_) (reference_run m' g')
  obtain ⟨a0, a1, a2, a3, a4, a5⟩ := ha c
  have ex : rgx m' c = gx m c := by unfold rgx gx; exact congr (congrArg₂ GX a0 a1) a3
  have ey : rgy m' c = gy m c := by unfold rgy gy; exact congrArg₂ GY a2 a3
  have fx : rnx m' c = nx m c := congrArg NX a4
  have fy : rny m' c = ny m c := congrArg NY a5
  have h' := h c
  rw [ex, ey, fx, fy] at h'
  exact h'

/-- The reference ends with its arguments unchanged and has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
